-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_drawn_range [hPre_drawn_range : Cert.Pre_drawn_range.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn_range [hKernelIdeal : Cert.KernelIdeal.Facts] [hPre_drawn_range : Cert.Pre_drawn_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "base_scale" .f32 0xBF051592#32 ((-((3 / 4) * (Real.log 2)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_close_pre_drawn_range [hKernelIdeal : Cert.KernelIdeal.Facts] [hPre_drawn_range : Cert.Pre_drawn_range.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn_range : Cert.Pre_drawn_range.Facts) (hPost_close : Cert.Post_close.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_KernelIdeal_pre_drawn_range (hKernelIdeal := hKernelIdeal) (hPre_drawn_range := hPre_drawn_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_close_pre_drawn_range (hKernelIdeal := hKernelIdeal) (hPre_drawn_range := hPre_drawn_range) (hPost_close := hPost_close)
-- ==== Post_close.lean ====
abbrev S8x20000x80 : Shape := ⟨3, ![8, 20000, 80]⟩
abbrev S8x20000x4 : Shape := ⟨3, ![8, 20000, 4]⟩
abbrev S1x20000x4 : Shape := ⟨3, ![1, 20000, 4]⟩
abbrev S8x32x5 : Shape := ⟨3, ![8, 32, 5]⟩
abbrev S8x8x5 : Shape := ⟨3, ![8, 8, 5]⟩
abbrev S2 : Shape := ⟨1, ![2]⟩
abbrev S20000x4 : Shape := ⟨2, ![20000, 4]⟩
abbrev S20000x1 : Shape := ⟨2, ![20000, 1]⟩
abbrev S20000 : Shape := ⟨1, ![20000]⟩
abbrev S_ : Shape := ⟨0, ![]⟩
abbrev S8x8x4 : Shape := ⟨3, ![8, 8, 4]⟩
abbrev S8x8x1 : Shape := ⟨3, ![8, 8, 1]⟩
abbrev S8x8 : Shape := ⟨2, ![8, 8]⟩
abbrev S8x1x8 : Shape := ⟨3, ![8, 1, 8]⟩
abbrev S1x20000x1 : Shape := ⟨3, ![1, 20000, 1]⟩
abbrev S8x20000x8 : Shape := ⟨3, ![8, 20000, 8]⟩
abbrev S8x20000 : Shape := ⟨2, ![8, 20000]⟩
abbrev S8x32x4 : Shape := ⟨3, ![8, 32, 4]⟩
abbrev S8x32x1 : Shape := ⟨3, ![8, 32, 1]⟩
abbrev S8x32 : Shape := ⟨2, ![8, 32]⟩
abbrev S8x1x32 : Shape := ⟨3, ![8, 1, 32]⟩
abbrev S8x20000x32 : Shape := ⟨3, ![8, 20000, 32]⟩
abbrev S8x20000x1 : Shape := ⟨3, ![8, 20000, 1]⟩
abbrev S8 : Shape := ⟨1, ![8]⟩
abbrev S8x20000x5 : Shape := ⟨3, ![8, 20000, 5]⟩
abbrev S1x80 : Shape := ⟨2, ![1, 80]⟩
abbrev S1x1x80 : Shape := ⟨3, ![1, 1, 80]⟩
abbrev S20000x80 : Shape := ⟨2, ![20000, 80]⟩
abbrev S1x20000 : Shape := ⟨2, ![1, 20000]⟩
abbrev S1 : Shape := ⟨1, ![1]⟩

class Facts : Prop where
  shapeCasts_S1x20000x4_S20000x4 : S1x20000x4.ShapeCasts S20000x4
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S_S20000 : S_.BroadcastsInDim S20000 (![] : Fin 0 → Fin S20000.rank)
  bcast_S_S8x20000x80 : S_.BroadcastsInDim S8x20000x80 (![] : Fin 0 → Fin S8x20000x80.rank)
  slices_S8x8x5_S8x8x4_0_0_0 : S8x8x5.Slices ![0, 0, 0] S8x8x4
  slices_S8x8x4_S8x8x1_0_0_2 : S8x8x4.Slices ![0, 0, 2] S8x8x1
  shapeCasts_S8x8x1_S8x8 : S8x8x1.ShapeCasts S8x8
  slices_S8x8x4_S8x8x1_0_0_0 : S8x8x4.Slices ![0, 0, 0] S8x8x1
  slices_S8x8x4_S8x8x1_0_0_3 : S8x8x4.Slices ![0, 0, 3] S8x8x1
  slices_S8x8x4_S8x8x1_0_0_1 : S8x8x4.Slices ![0, 0, 1] S8x8x1
  bcast_S20000_S20000x1_0 : S20000.BroadcastsInDim S20000x1 (![0] : Fin 1 → Fin S20000x1.rank)
  bcast_S8x8_S8x1x8_0_2 : S8x8.BroadcastsInDim S8x1x8 (![0, 2] : Fin 2 → Fin S8x1x8.rank)
  bcast_S20000x1_S1x20000x1_1_2 : S20000x1.BroadcastsInDim S1x20000x1 (![1, 2] : Fin 2 → Fin S1x20000x1.rank)
  bcast_S1x20000x1_S8x20000x8_0_1_2 : S1x20000x1.BroadcastsInDim S8x20000x8 (![0, 1, 2] : Fin 3 → Fin S8x20000x8.rank)
  bcast_S8x1x8_S8x20000x8_0_1_2 : S8x1x8.BroadcastsInDim S8x20000x8 (![0, 1, 2] : Fin 3 → Fin S8x20000x8.rank)
  bcast_S_S8x20000x8 : S_.BroadcastsInDim S8x20000x8 (![] : Fin 0 → Fin S8x20000x8.rank)
  reducesTo_S8x20000x8_S8x20000_d2 : S8x20000x8.ReducesTo [2] S8x20000
  h_S_ : 0 < S_.numel
  bcast_S_S8x20000 : S_.BroadcastsInDim S8x20000 (![] : Fin 0 → Fin S8x20000.rank)
  slices_S8x32x5_S8x32x4_0_0_0 : S8x32x5.Slices ![0, 0, 0] S8x32x4
  slices_S8x32x4_S8x32x1_0_0_2 : S8x32x4.Slices ![0, 0, 2] S8x32x1
  shapeCasts_S8x32x1_S8x32 : S8x32x1.ShapeCasts S8x32
  slices_S8x32x4_S8x32x1_0_0_0 : S8x32x4.Slices ![0, 0, 0] S8x32x1
  slices_S8x32x4_S8x32x1_0_0_3 : S8x32x4.Slices ![0, 0, 3] S8x32x1
  slices_S8x32x4_S8x32x1_0_0_1 : S8x32x4.Slices ![0, 0, 1] S8x32x1
  bcast_S8x32_S8x1x32_0_2 : S8x32.BroadcastsInDim S8x1x32 (![0, 2] : Fin 2 → Fin S8x1x32.rank)
  bcast_S1x20000x1_S8x20000x32_0_1_2 : S1x20000x1.BroadcastsInDim S8x20000x32 (![0, 1, 2] : Fin 3 → Fin S8x20000x32.rank)
  bcast_S8x1x32_S8x20000x32_0_1_2 : S8x1x32.BroadcastsInDim S8x20000x32 (![0, 1, 2] : Fin 3 → Fin S8x20000x32.rank)
  bcast_S_S8x20000x32 : S_.BroadcastsInDim S8x20000x32 (![] : Fin 0 → Fin S8x20000x32.rank)
  reducesTo_S8x20000x32_S8x20000_d2 : S8x20000x32.ReducesTo [2] S8x20000
  sliceFits_S8x20000x32_S8x20000x1 : S8x20000x32.Slices (fun _ => 0) S8x20000x1
  shapeCasts_S8x20000x1_S8x20000 : S8x20000x1.ShapeCasts S8x20000
  natLt_1_32 : 1 < 32
  reducesTo_S8x20000_S8_d1 : S8x20000.ReducesTo [1] S8
  bcast_S8x20000_S8x20000x1_0_1 : S8x20000.BroadcastsInDim S8x20000x1 (![0, 1] : Fin 2 → Fin S8x20000x1.rank)
  slices_S8x20000x5_S8x20000x1_0_0_4 : S8x20000x5.Slices ![0, 0, 4] S8x20000x1
  bcast_S1x80_S1x1x80_1_2 : S1x80.BroadcastsInDim S1x1x80 (![1, 2] : Fin 2 → Fin S1x1x80.rank)
  bcast_S8x20000x1_S8x20000x80_0_1_2 : S8x20000x1.BroadcastsInDim S8x20000x80 (![0, 1, 2] : Fin 3 → Fin S8x20000x80.rank)
  bcast_S1x1x80_S8x20000x80_0_1_2 : S1x1x80.BroadcastsInDim S8x20000x80 (![0, 1, 2] : Fin 3 → Fin S8x20000x80.rank)
  bcast_S_S20000x1 : S_.BroadcastsInDim S20000x1 (![] : Fin 0 → Fin S20000x1.rank)
  bcast_S20000x1_S8x20000x1_1_2 : S20000x1.BroadcastsInDim S8x20000x1 (![1, 2] : Fin 2 → Fin S8x20000x1.rank)
  bcast_S_S20000x80 : S_.BroadcastsInDim S20000x80 (![] : Fin 0 → Fin S20000x80.rank)
  bcast_S20000x80_S8x20000x80_1_2 : S20000x80.BroadcastsInDim S8x20000x80 (![1, 2] : Fin 2 → Fin S8x20000x80.rank)
  reducesTo_S8x20000x80_S8_d1_2 : S8x20000x80.ReducesTo [1, 2] S8
  bcast_S_S8 : S_.BroadcastsInDim S8 (![] : Fin 0 → Fin S8.rank)
  slices_S8x20000x5_S8x20000x1_0_0_2 : S8x20000x5.Slices ![0, 0, 2] S8x20000x1
  slices_S8x20000x5_S8x20000x1_0_0_0 : S8x20000x5.Slices ![0, 0, 0] S8x20000x1
  slices_S8x20000x5_S8x20000x1_0_0_3 : S8x20000x5.Slices ![0, 0, 3] S8x20000x1
  slices_S8x20000x5_S8x20000x1_0_0_1 : S8x20000x5.Slices ![0, 0, 1] S8x20000x1
  bcast_S20000_S1x20000_1 : S20000.BroadcastsInDim S1x20000 (![1] : Fin 1 → Fin S1x20000.rank)
  bcast_S1x20000_S8x20000_0_1 : S1x20000.BroadcastsInDim S8x20000 (![0, 1] : Fin 2 → Fin S8x20000.rank)
  concatenates_S8x20000x1_S8x20000x1_S8x20000x1_S8x20000x1_S8x20000x4_d2 : Shape.Concatenates [S8x20000x1, S8x20000x1, S8x20000x1, S8x20000x1] S8x20000x4 2
  bcast_S_S8x20000x4 : S_.BroadcastsInDim S8x20000x4 (![] : Fin 0 → Fin S8x20000x4.rank)
  bcast_S8x20000x1_S8x20000x4_0_1_2 : S8x20000x1.BroadcastsInDim S8x20000x4 (![0, 1, 2] : Fin 3 → Fin S8x20000x4.rank)
  bcast_S_S20000x4 : S_.BroadcastsInDim S20000x4 (![] : Fin 0 → Fin S20000x4.rank)
  bcast_S20000x4_S8x20000x4_1_2 : S20000x4.BroadcastsInDim S8x20000x4 (![1, 2] : Fin 2 → Fin S8x20000x4.rank)
  reducesTo_S8x20000x4_S8_d1_2 : S8x20000x4.ReducesTo [1, 2] S8
  reducesTo_S8_S_d0 : S8.ReducesTo [0] S_
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  gather_S8x32x5_S8x20000x1_S8x20000x5_2_1_0_0_1_2_115_wf : GatherDims.WF S8x32x5 S8x20000x1 S8x20000x5 [2] [1] [0] [1] [0] 2 ![1, 1, 5]

variable [Facts]

def gather_S8x32x5_S8x20000x1_S8x20000x5_2_1_0_0_1_2_115 : GatherDims S8x32x5 S8x20000x1 S8x20000x5 where
  offsetDims := [2]
  collapsedSliceDims := [1]
  operandBatchingDims := [0]
  startIndicesBatchingDims := [0]
  startIndexMap := [1]
  indexVectorDim := 2
  sliceSizes := ![1, 1, 5]
  wf := gather_S8x32x5_S8x20000x1_S8x20000x5_2_1_0_0_1_2_115_wf
def fn_clip {F : FTy → Type} [FloatOps F] (arg0 : FVec F S8x20000x80 .f32) (arg1 : FVec F S_ .f32) (arg2 : FVec F S_ .f32) : FVec F S8x20000x80 .f32 :=
  let v0 : FVec F S_ .f32 := id arg1
  let v1 : FVec F S8x20000x80 .f32 := broadcastInDim S8x20000x80 ![] bcast_S_S8x20000x80 v0
  let v2 : FVec F S8x20000x80 .f32 := maximumf v1 arg0
  let v3 : FVec F S_ .f32 := id arg2
  let v4 : FVec F S8x20000x80 .f32 := broadcastInDim S8x20000x80 ![] bcast_S_S8x20000x80 v3
  let v5 : FVec F S8x20000x80 .f32 := minimumf v4 v2
  v5

def fn_one_hot {F : FTy → Type} [FloatOps F] (arg0 : IVec S8x20000 32) : FVec F S8x20000x80 .f32 :=
  let v0 : IVec S8x20000x1 32 := broadcastInDim S8x20000x1 ![0, 1] bcast_S8x20000_S8x20000x1_0_1 arg0
  let v1 : IVec S1x80 32 := iotaInDim S1x80 32 1
  let v2 : IVec S1x1x80 32 := broadcastInDim S1x1x80 ![1, 2] bcast_S1x80_S1x1x80_1_2 v1
  let v3 : IVec S8x20000x80 32 := broadcastInDim S8x20000x80 ![0, 1, 2] bcast_S8x20000x1_S8x20000x80_0_1_2 v0
  let v4 : IVec S8x20000x80 32 := broadcastInDim S8x20000x80 ![0, 1, 2] bcast_S1x1x80_S8x20000x80_0_1_2 v2
  let v5 : IVec S8x20000x80 1 := cmpi .eq v3 v4
  let v6 : FVec F S8x20000x80 .f32 := uitofp .f32 v5
  v6

def fn_where {F : FTy → Type} [FloatOps F] (arg0 : IVec S8x20000x1 1) (arg1 : FVec F S_ .f32) (arg2 : FVec F S_ .f32) : FVec F S8x20000x1 .f32 :=
  let v0 : FVec F S20000x1 .f32 := broadcastInDim S20000x1 ![] bcast_S_S20000x1 arg1
  let v1 : FVec F S20000x1 .f32 := broadcastInDim S20000x1 ![] bcast_S_S20000x1 arg2
  let v2 : FVec F S8x20000x1 .f32 := broadcastInDim S8x20000x1 ![1, 2] bcast_S20000x1_S8x20000x1_1_2 v1
  let v3 : FVec F S8x20000x1 .f32 := broadcastInDim S8x20000x1 ![1, 2] bcast_S20000x1_S8x20000x1_1_2 v0
  let v4 : FVec F S8x20000x1 .f32 := select arg0 v3 v2
  v4

def fn_where_0 {F : FTy → Type} [FloatOps F] (arg0 : IVec S8x20000x1 1) (arg1 : FVec F S8x20000x80 .f32) (arg2 : FVec F S8x20000x1 .f32) : FVec F S8x20000x80 .f32 :=
  let v0 : FVec F S8x20000x1 .f32 := id arg2
  let v1 : IVec S8x20000x80 1 := broadcastInDim S8x20000x80 ![0, 1, 2] bcast_S8x20000x1_S8x20000x80_0_1_2 arg0
  let v2 : FVec F S8x20000x80 .f32 := broadcastInDim S8x20000x80 ![0, 1, 2] bcast_S8x20000x1_S8x20000x80_0_1_2 v0
  let v3 : FVec F S8x20000x80 .f32 := select v1 arg1 v2
  v3

def fn_where_1 {F : FTy → Type} [FloatOps F] (arg0 : IVec S8x20000x80 1) (arg1 : FVec F S_ .f32) (arg2 : FVec F S_ .f32) : FVec F S8x20000x80 .f32 :=
  let v0 : FVec F S20000x80 .f32 := broadcastInDim S20000x80 ![] bcast_S_S20000x80 arg1
  let v1 : FVec F S20000x80 .f32 := broadcastInDim S20000x80 ![] bcast_S_S20000x80 arg2
  let v2 : FVec F S8x20000x80 .f32 := broadcastInDim S8x20000x80 ![1, 2] bcast_S20000x80_S8x20000x80_1_2 v1
  let v3 : FVec F S8x20000x80 .f32 := broadcastInDim S8x20000x80 ![1, 2] bcast_S20000x80_S8x20000x80_1_2 v0
  let v4 : FVec F S8x20000x80 .f32 := select arg0 v3 v2
  v4

def fn_where_2 {F : FTy → Type} [FloatOps F] (arg0 : IVec S8x20000x80 1) (arg1 : FVec F S8x20000x80 .f32) (arg2 : FVec F S8x20000x80 .f32) : FVec F S8x20000x80 .f32 :=
  let v0 : FVec F S8x20000x80 .f32 := select arg0 arg1 arg2
  v0

def fn_where_3 {F : FTy → Type} [FloatOps F] (arg0 : IVec S8x20000x80 1) (arg1 : FVec F S8x20000x80 .f32) (arg2 : FVec F S_ .f32) : FVec F S8x20000x80 .f32 :=
  let v0 : FVec F S_ .f32 := id arg2
  let v1 : FVec F S20000x80 .f32 := broadcastInDim S20000x80 ![] bcast_S_S20000x80 v0
  let v2 : FVec F S8x20000x80 .f32 := broadcastInDim S8x20000x80 ![1, 2] bcast_S20000x80_S8x20000x80_1_2 v1
  let v3 : FVec F S8x20000x80 .f32 := select arg0 arg1 v2
  v3

def fn_where_4 {F : FTy → Type} [FloatOps F] (arg0 : IVec S8x20000x4 1) (arg1 : FVec F S8x20000x4 .f32) (arg2 : FVec F S8x20000x4 .f32) : FVec F S8x20000x4 .f32 :=
  let v0 : FVec F S8x20000x4 .f32 := select arg0 arg1 arg2
  v0

def fn_where_5 {F : FTy → Type} [FloatOps F] (arg0 : IVec S8x20000x1 1) (arg1 : FVec F S8x20000x4 .f32) (arg2 : FVec F S_ .f32) : FVec F S8x20000x4 .f32 :=
  let v0 : FVec F S_ .f32 := id arg2
  let v1 : IVec S8x20000x4 1 := broadcastInDim S8x20000x4 ![0, 1, 2] bcast_S8x20000x1_S8x20000x4_0_1_2 arg0
  let v2 : FVec F S20000x4 .f32 := broadcastInDim S20000x4 ![] bcast_S_S20000x4 v0
  let v3 : FVec F S8x20000x4 .f32 := broadcastInDim S8x20000x4 ![1, 2] bcast_S20000x4_S8x20000x4_1_2 v2
  let v4 : FVec F S8x20000x4 .f32 := select v1 arg1 v3
  v4

def fn_part16 {F : FTy → Type} [FloatOps F] (main_arg5 : FVec F S2 .f32) (main_v324 : FVec F S2 .f32) (main_v330 : FVec F S_ .f32) : IVec S_ 1 :=
  let main_cst_49 : FVec F S_ .f32 := constant S_ .f32 0x360637BD#32
  let main_v331 : IVec S_ 1 := cmpf .ole main_v330 main_cst_49
  let main_v332 : FVec F S1 .f32 := (extractStridedSlice S1 ![1] · slices_S2_S1_1) main_arg5
  let main_v333 : FVec F S_ .f32 := shapeCast S_ main_v332 shapeCasts_S1_S_
  let main_v334 : FVec F S1 .f32 := (extractStridedSlice S1 ![1] · slices_S2_S1_1) main_v324
  let main_v335 : FVec F S_ .f32 := shapeCast S_ main_v334 shapeCasts_S1_S_
  let main_v336 : IVec S_ 1 := cmpf .oeq main_v333 main_v335
  let main_v337 : IVec S_ 1 := andi main_v331 main_v336
  main_v337

def fn_part15 {F : FTy → Type} [FloatOps F] (main_arg5 : FVec F S2 .f32) (main_v197 : FVec F S8 .f32) (main_v242 : FVec F S8 .f32) (main_v312 : FVec F S8 .f32) : IVec S_ 1 :=
  let main_cst_43 : FVec F S_ .f32 := constant S_ .f32 0x40800000#32
  let main_v313 : FVec F S8 .f32 := broadcastInDim S8 ![] bcast_S_S8 main_cst_43
  let main_v314 : FVec F S8 .f32 := mulf main_v197 main_v313
  let main_cst_44 : FVec F S_ .f32 := constant S_ .f32 0x3F800000#32
  let main_v315 : FVec F S8 .f32 := broadcastInDim S8 ![] bcast_S_S8 main_cst_44
  let main_v316 : FVec F S8 .f32 := maximumf main_v314 main_v315
  let main_v317 : FVec F S8 .f32 := Host.divf main_v312 main_v316
  let main_cst_45 : FVec F S_ .f32 := constant S_ .f32 0x00000000#32
  let main_v318 : FVec F S_ .f32 := (fun x v => Host.reduceAdd x v reducesTo_S8_S_d0 h_S_) main_v242 main_cst_45
  let main_cst_46 : FVec F S_ .f32 := constant S_ .f32 0x41000000#32
  let main_v319 : FVec F S_ .f32 := Host.divf main_v318 main_cst_46
  let main_cst_47 : FVec F S_ .f32 := constant S_ .f32 0x00000000#32
  let main_v320 : FVec F S_ .f32 := (fun x v => Host.reduceAdd x v reducesTo_S8_S_d0 h_S_) main_v317 main_cst_47
  let main_cst_48 : FVec F S_ .f32 := constant S_ .f32 0x41000000#32
  let main_v321 : FVec F S_ .f32 := Host.divf main_v320 main_cst_48
  let main_v322 : FVec F S1 .f32 := broadcastInDim S1 ![] bcast_S_S1 main_v319
  let main_v323 : FVec F S1 .f32 := broadcastInDim S1 ![] bcast_S_S1 main_v321
  let main_v324 : FVec F S2 .f32 := (fun a b => concatenate S2 0 [⟨S1, a⟩, ⟨S1, b⟩] concatenates_S1_S1_S2_d0) main_v322 main_v323
  let main_v325 : FVec F S1 .f32 := (extractStridedSlice S1 ![0] · slices_S2_S1_0) main_arg5
  let main_v326 : FVec F S_ .f32 := shapeCast S_ main_v325 shapeCasts_S1_S_
  let main_v327 : FVec F S1 .f32 := (extractStridedSlice S1 ![0] · slices_S2_S1_0) main_v324
  let main_v328 : FVec F S_ .f32 := shapeCast S_ main_v327 shapeCasts_S1_S_
  let main_v329 : FVec F S_ .f32 := subf main_v326 main_v328
  let main_v330 : FVec F S_ .f32 := Host.absf main_v329
  fn_part16 (F := F) main_arg5 main_v324 main_v330

def fn_part14 {F : FTy → Type} [FloatOps F] (main_arg1 : FVec F S8x20000x4 .f32) (main_arg5 : FVec F S2 .f32) (main_v191 : IVec S8x20000 1) (main_v197 : FVec F S8 .f32) (main_v242 : FVec F S8 .f32) (main_v274 : FVec F S8x20000 .f32) (main_v282 : FVec F S8x20000 .f32) (main_v288 : FVec F S8x20000 .f32) (main_v292 : FVec F S8x20000 .f32) (main_v293 : FVec F S8x20000 .f32) : IVec S_ 1 :=
  let main_v294 : FVec F S8x20000 .f32 := Host.divf main_v292 main_v293
  let main_v295 : FVec F S8x20000x1 .f32 := broadcastInDim S8x20000x1 ![0, 1] bcast_S8x20000_S8x20000x1_0_1 main_v274
  let main_v296 : FVec F S8x20000x1 .f32 := broadcastInDim S8x20000x1 ![0, 1] bcast_S8x20000_S8x20000x1_0_1 main_v282
  let main_v297 : FVec F S8x20000x1 .f32 := broadcastInDim S8x20000x1 ![0, 1] bcast_S8x20000_S8x20000x1_0_1 main_v288
  let main_v298 : FVec F S8x20000x1 .f32 := broadcastInDim S8x20000x1 ![0, 1] bcast_S8x20000_S8x20000x1_0_1 main_v294
  let main_v299 : FVec F S8x20000x4 .f32 := concatenate S8x20000x4 2 [⟨S8x20000x1, main_v295⟩, ⟨S8x20000x1, main_v296⟩, ⟨S8x20000x1, main_v297⟩, ⟨S8x20000x1, main_v298⟩] concatenates_S8x20000x1_S8x20000x1_S8x20000x1_S8x20000x1_S8x20000x4_d2
  let main_v300 : FVec F S8x20000x4 .f32 := subf main_v299 main_arg1
  let main_v301 : FVec F S8x20000x4 .f32 := Host.absf main_v300
  let main_cst_38 : FVec F S_ .f32 := constant S_ .f32 0x3DE38E39#32
  let main_v302 : FVec F S8x20000x4 .f32 := broadcastInDim S8x20000x4 ![] bcast_S_S8x20000x4 main_cst_38
  let main_v303 : IVec S8x20000x4 1 := cmpf .ole main_v301 main_v302
  let main_v304 : FVec F S8x20000x4 .f32 := mulf main_v301 main_v301
  let main_cst_39 : FVec F S_ .f32 := constant S_ .f32 0x40900000#32
  let main_v305 : FVec F S8x20000x4 .f32 := broadcastInDim S8x20000x4 ![] bcast_S_S8x20000x4 main_cst_39
  let main_v306 : FVec F S8x20000x4 .f32 := mulf main_v305 main_v304
  let main_cst_40 : FVec F S_ .f32 := constant S_ .f32 0x3D638E39#32
  let main_v307 : FVec F S8x20000x4 .f32 := broadcastInDim S8x20000x4 ![] bcast_S_S8x20000x4 main_cst_40
  let main_v308 : FVec F S8x20000x4 .f32 := subf main_v301 main_v307
  let main_v309 : FVec F S8x20000x4 .f32 := fn_where_4 (F := F) main_v303 main_v306 main_v308
  let main_v310 : IVec S8x20000x1 1 := broadcastInDim S8x20000x1 ![0, 1] bcast_S8x20000_S8x20000x1_0_1 main_v191
  let main_cst_41 : FVec F S_ .f32 := constant S_ .f32 0x00000000#32
  let main_v311 : FVec F S8x20000x4 .f32 := fn_where_5 (F := F) main_v310 main_v309 main_cst_41
  let main_cst_42 : FVec F S_ .f32 := constant S_ .f32 0x00000000#32
  let main_v312 : FVec F S8 .f32 := (fun x v => Host.reduceAdd x v reducesTo_S8x20000x4_S8_d1_2 h_S_) main_v311 main_cst_42
  fn_part15 (F := F) main_arg5 main_v197 main_v242 main_v312

def fn_part13 {F : FTy → Type} [FloatOps F] (main_arg1 : FVec F S8x20000x4 .f32) (main_arg5 : FVec F S2 .f32) (main_v5 : FVec F S20000 .f32) (main_v10 : FVec F S20000 .f32) (main_v20 : FVec F S20000 .f32) (main_v191 : IVec S8x20000 1) (main_v197 : FVec F S8 .f32) (main_v242 : FVec F S8 .f32) (main_v262 : FVec F S8x20000 .f32) (main_v264 : FVec F S8x20000 .f32) (main_v266 : FVec F S8x20000 .f32) (main_v272 : FVec F S8x20000 .f32) (main_cst_34 : FVec F S_ .f32) : IVec S_ 1 :=
  let main_v273 : FVec F S8x20000 .f32 := broadcastInDim S8x20000 ![] bcast_S_S8x20000 main_cst_34
  let main_v274 : FVec F S8x20000 .f32 := Host.divf main_v272 main_v273
  let main_v275 : FVec F S1x20000 .f32 := broadcastInDim S1x20000 ![1] bcast_S20000_S1x20000_1 main_v20
  let main_v276 : FVec F S8x20000 .f32 := broadcastInDim S8x20000 ![0, 1] bcast_S1x20000_S8x20000_0_1 main_v275
  let main_v277 : FVec F S8x20000 .f32 := subf main_v262 main_v276
  let main_v278 : FVec F S1x20000 .f32 := broadcastInDim S1x20000 ![1] bcast_S20000_S1x20000_1 main_v10
  let main_v279 : FVec F S8x20000 .f32 := broadcastInDim S8x20000 ![0, 1] bcast_S1x20000_S8x20000_0_1 main_v278
  let main_v280 : FVec F S8x20000 .f32 := Host.divf main_v277 main_v279
  let main_cst_35 : FVec F S_ .f32 := constant S_ .f32 0x3DCCCCCD#32
  let main_v281 : FVec F S8x20000 .f32 := broadcastInDim S8x20000 ![] bcast_S_S8x20000 main_cst_35
  let main_v282 : FVec F S8x20000 .f32 := Host.divf main_v280 main_v281
  let main_v283 : FVec F S1x20000 .f32 := broadcastInDim S1x20000 ![1] bcast_S20000_S1x20000_1 main_v5
  let main_v284 : FVec F S8x20000 .f32 := broadcastInDim S8x20000 ![0, 1] bcast_S1x20000_S8x20000_0_1 main_v283
  let main_v285 : FVec F S8x20000 .f32 := Host.divf main_v264 main_v284
  let main_v286 : FVec F S8x20000 .f32 := Host.log main_v285
  let main_cst_36 : FVec F S_ .f32 := constant S_ .f32 0x3E4CCCCD#32
  let main_v287 : FVec F S8x20000 .f32 := broadcastInDim S8x20000 ![] bcast_S_S8x20000 main_cst_36
  let main_v288 : FVec F S8x20000 .f32 := Host.divf main_v286 main_v287
  let main_v289 : FVec F S1x20000 .f32 := broadcastInDim S1x20000 ![1] bcast_S20000_S1x20000_1 main_v10
  let main_v290 : FVec F S8x20000 .f32 := broadcastInDim S8x20000 ![0, 1] bcast_S1x20000_S8x20000_0_1 main_v289
  let main_v291 : FVec F S8x20000 .f32 := Host.divf main_v266 main_v290
  let main_v292 : FVec F S8x20000 .f32 := Host.log main_v291
  let main_cst_37 : FVec F S_ .f32 := constant S_ .f32 0x3E4CCCCD#32
  let main_v293 : FVec F S8x20000 .f32 := broadcastInDim S8x20000 ![] bcast_S_S8x20000 main_cst_37
  fn_part14 (F := F) main_arg1 main_arg5 main_v191 main_v197 main_v242 main_v274 main_v282 main_v288 main_v292 main_v293

def fn_part12 {F : FTy → Type} [FloatOps F] (main_arg1 : FVec F S8x20000x4 .f32) (main_arg5 : FVec F S2 .f32) (main_v5 : FVec F S20000 .f32) (main_v10 : FVec F S20000 .f32) (main_v15 : FVec F S20000 .f32) (main_v20 : FVec F S20000 .f32) (main_v191 : IVec S8x20000 1) (main_v197 : FVec F S8 .f32) (main_v204 : FVec F S8x20000x5 .f32) (main_v242 : FVec F S8 .f32) (main_v247 : FVec F S8x20000 .f32) (main_v252 : FVec F S8x20000 .f32) (main_v253 : FVec F S8x20000x1 .f32) : IVec S_ 1 :=
  let main_v254 : FVec F S8x20000 .f32 := shapeCast S8x20000 main_v253 shapeCasts_S8x20000x1_S8x20000
  let main_cst_30 : FVec F S_ .f32 := constant S_ .f32 0x3F000000#32
  let main_v255 : FVec F S8x20000 .f32 := broadcastInDim S8x20000 ![] bcast_S_S8x20000 main_cst_30
  let main_v256 : FVec F S8x20000 .f32 := mulf main_v255 main_v247
  let main_v257 : FVec F S8x20000 .f32 := addf main_v254 main_v256
  let main_v258 : FVec F S8x20000x1 .f32 := (extractStridedSlice S8x20000x1 ![0, 0, 1] · slices_S8x20000x5_S8x20000x1_0_0_1) main_v204
  let main_v259 : FVec F S8x20000 .f32 := shapeCast S8x20000 main_v258 shapeCasts_S8x20000x1_S8x20000
  let main_cst_31 : FVec F S_ .f32 := constant S_ .f32 0x3F000000#32
  let main_v260 : FVec F S8x20000 .f32 := broadcastInDim S8x20000 ![] bcast_S_S8x20000 main_cst_31
  let main_v261 : FVec F S8x20000 .f32 := mulf main_v260 main_v252
  let main_v262 : FVec F S8x20000 .f32 := addf main_v259 main_v261
  let main_cst_32 : FVec F S_ .f32 := constant S_ .f32 0x3F800000#32
  let main_v263 : FVec F S8x20000 .f32 := broadcastInDim S8x20000 ![] bcast_S_S8x20000 main_cst_32
  let main_v264 : FVec F S8x20000 .f32 := maximumf main_v247 main_v263
  let main_cst_33 : FVec F S_ .f32 := constant S_ .f32 0x3F800000#32
  let main_v265 : FVec F S8x20000 .f32 := broadcastInDim S8x20000 ![] bcast_S_S8x20000 main_cst_33
  let main_v266 : FVec F S8x20000 .f32 := maximumf main_v252 main_v265
  let main_v267 : FVec F S1x20000 .f32 := broadcastInDim S1x20000 ![1] bcast_S20000_S1x20000_1 main_v15
  let main_v268 : FVec F S8x20000 .f32 := broadcastInDim S8x20000 ![0, 1] bcast_S1x20000_S8x20000_0_1 main_v267
  let main_v269 : FVec F S8x20000 .f32 := subf main_v257 main_v268
  let main_v270 : FVec F S1x20000 .f32 := broadcastInDim S1x20000 ![1] bcast_S20000_S1x20000_1 main_v5
  let main_v271 : FVec F S8x20000 .f32 := broadcastInDim S8x20000 ![0, 1] bcast_S1x20000_S8x20000_0_1 main_v270
  let main_v272 : FVec F S8x20000 .f32 := Host.divf main_v269 main_v271
  let main_cst_34 : FVec F S_ .f32 := constant S_ .f32 0x3DCCCCCD#32
  fn_part13 (F := F) main_arg1 main_arg5 main_v5 main_v10 main_v20 main_v191 main_v197 main_v242 main_v262 main_v264 main_v266 main_v272 main_cst_34

def fn_part11 {F : FTy → Type} [FloatOps F] (main_arg1 : FVec F S8x20000x4 .f32) (main_arg5 : FVec F S2 .f32) (main_v5 : FVec F S20000 .f32) (main_v10 : FVec F S20000 .f32) (main_v15 : FVec F S20000 .f32) (main_v20 : FVec F S20000 .f32) (main_v191 : IVec S8x20000 1) (main_v197 : FVec F S8 .f32) (main_v204 : FVec F S8x20000x5 .f32) (main_v212 : FVec F S8x20000x80 .f32) (main_v224 : FVec F S8x20000x80 .f32) (main_v233 : FVec F S8x20000x80 .f32) : IVec S_ 1 :=
  let main_v234 : FVec F S8x20000x80 .f32 := Host.negf main_v233
  let main_cst_26 : FVec F S_ .f32 := constant S_ .f32 0xBF800000#32
  let main_v235 : FVec F S8x20000x80 .f32 := broadcastInDim S8x20000x80 ![] bcast_S_S8x20000x80 main_cst_26
  let main_v236 : IVec S8x20000x80 1 := cmpf .une main_v212 main_v235
  let main_v237 : FVec F S8x20000x80 .f32 := mulf main_v224 main_v234
  let main_cst_27 : FVec F S_ .f32 := constant S_ .f32 0x00000000#32
  let main_v238 : FVec F S8x20000x80 .f32 := fn_where_3 (F := F) main_v236 main_v237 main_cst_27
  let main_cst_28 : FVec F S_ .f32 := constant S_ .f32 0x00000000#32
  let main_v239 : FVec F S8 .f32 := (fun x v => Host.reduceAdd x v reducesTo_S8x20000x80_S8_d1_2 h_S_) main_v238 main_cst_28
  let main_cst_29 : FVec F S_ .f32 := constant S_ .f32 0x3F800000#32
  let main_v240 : FVec F S8 .f32 := broadcastInDim S8 ![] bcast_S_S8 main_cst_29
  let main_v241 : FVec F S8 .f32 := maximumf main_v197 main_v240
  let main_v242 : FVec F S8 .f32 := Host.divf main_v239 main_v241
  let main_v243 : FVec F S8x20000x1 .f32 := (extractStridedSlice S8x20000x1 ![0, 0, 2] · slices_S8x20000x5_S8x20000x1_0_0_2) main_v204
  let main_v244 : FVec F S8x20000 .f32 := shapeCast S8x20000 main_v243 shapeCasts_S8x20000x1_S8x20000
  let main_v245 : FVec F S8x20000x1 .f32 := (extractStridedSlice S8x20000x1 ![0, 0, 0] · slices_S8x20000x5_S8x20000x1_0_0_0) main_v204
  let main_v246 : FVec F S8x20000 .f32 := shapeCast S8x20000 main_v245 shapeCasts_S8x20000x1_S8x20000
  let main_v247 : FVec F S8x20000 .f32 := subf main_v244 main_v246
  let main_v248 : FVec F S8x20000x1 .f32 := (extractStridedSlice S8x20000x1 ![0, 0, 3] · slices_S8x20000x5_S8x20000x1_0_0_3) main_v204
  let main_v249 : FVec F S8x20000 .f32 := shapeCast S8x20000 main_v248 shapeCasts_S8x20000x1_S8x20000
  let main_v250 : FVec F S8x20000x1 .f32 := (extractStridedSlice S8x20000x1 ![0, 0, 1] · slices_S8x20000x5_S8x20000x1_0_0_1) main_v204
  let main_v251 : FVec F S8x20000 .f32 := shapeCast S8x20000 main_v250 shapeCasts_S8x20000x1_S8x20000
  let main_v252 : FVec F S8x20000 .f32 := subf main_v249 main_v251
  let main_v253 : FVec F S8x20000x1 .f32 := (extractStridedSlice S8x20000x1 ![0, 0, 0] · slices_S8x20000x5_S8x20000x1_0_0_0) main_v204
  fn_part12 (F := F) main_arg1 main_arg5 main_v5 main_v10 main_v15 main_v20 main_v191 main_v197 main_v204 main_v242 main_v247 main_v252 main_v253

def fn_part10 {F : FTy → Type} [FloatOps F] (main_arg1 : FVec F S8x20000x4 .f32) (main_arg5 : FVec F S2 .f32) (main_v5 : FVec F S20000 .f32) (main_v10 : FVec F S20000 .f32) (main_v15 : FVec F S20000 .f32) (main_v20 : FVec F S20000 .f32) (main_v21 : FVec F S8x20000x80 .f32) (main_v191 : IVec S8x20000 1) (main_v197 : FVec F S8 .f32) (main_v204 : FVec F S8x20000x5 .f32) (main_v212 : FVec F S8x20000x80 .f32) (main_v214 : IVec S8x20000x80 1) (main_cst_19 : FVec F S_ .f32) (main_cst_20 : FVec F S_ .f32) : IVec S_ 1 :=
  let main_v215 : FVec F S8x20000x80 .f32 := fn_where_1 (F := F) main_v214 main_cst_19 main_cst_20
  let main_cst_21 : FVec F S_ .f32 := constant S_ .f32 0x3F800000#32
  let main_v216 : FVec F S8x20000x80 .f32 := broadcastInDim S8x20000x80 ![] bcast_S_S8x20000x80 main_cst_21
  let main_v217 : IVec S8x20000x80 1 := cmpf .oeq main_v212 main_v216
  let main_cst_22 : FVec F S_ .f32 := constant S_ .f32 0x3F800000#32
  let main_v218 : FVec F S8x20000x80 .f32 := broadcastInDim S8x20000x80 ![] bcast_S_S8x20000x80 main_cst_22
  let main_v219 : FVec F S8x20000x80 .f32 := subf main_v218 main_v21
  let main_v220 : FVec F S8x20000x80 .f32 := fn_where_2 (F := F) main_v217 main_v219 main_v21
  let main_cst_23 : FVec F S_ .f32 := constant S_ .f32 0x40000000#32
  let main_v221 : FVec F S8x20000x80 .f32 := broadcastInDim S8x20000x80 ![] bcast_S_S8x20000x80 main_cst_23
  let main_v222 : FVec F S8x20000x80 .f32 := Host.powf main_v220 main_v221
  let main_v223 : FVec F S8x20000x80 .f32 := id main_v215
  let main_v224 : FVec F S8x20000x80 .f32 := mulf main_v223 main_v222
  let main_v225 : FVec F S8x20000x80 .f32 := Host.log main_v21
  let main_v226 : FVec F S8x20000x80 .f32 := mulf main_v212 main_v225
  let main_cst_24 : FVec F S_ .f32 := constant S_ .f32 0x3F800000#32
  let main_v227 : FVec F S8x20000x80 .f32 := broadcastInDim S8x20000x80 ![] bcast_S_S8x20000x80 main_cst_24
  let main_v228 : FVec F S8x20000x80 .f32 := subf main_v227 main_v212
  let main_cst_25 : FVec F S_ .f32 := constant S_ .f32 0x3F800000#32
  let main_v229 : FVec F S8x20000x80 .f32 := broadcastInDim S8x20000x80 ![] bcast_S_S8x20000x80 main_cst_25
  let main_v230 : FVec F S8x20000x80 .f32 := subf main_v229 main_v21
  let main_v231 : FVec F S8x20000x80 .f32 := Host.log main_v230
  let main_v232 : FVec F S8x20000x80 .f32 := mulf main_v228 main_v231
  let main_v233 : FVec F S8x20000x80 .f32 := addf main_v226 main_v232
  fn_part11 (F := F) main_arg1 main_arg5 main_v5 main_v10 main_v15 main_v20 main_v191 main_v197 main_v204 main_v212 main_v224 main_v233

def fn_part9 {F : FTy → Type} [FloatOps F] (main_arg1 : FVec F S8x20000x4 .f32) (main_arg3 : FVec F S8x32x5 .f32) (main_arg5 : FVec F S2 .f32) (main_v5 : FVec F S20000 .f32) (main_v10 : FVec F S20000 .f32) (main_v15 : FVec F S20000 .f32) (main_v20 : FVec F S20000 .f32) (main_v21 : FVec F S8x20000x80 .f32) (main_v188 : IVec S8x20000 32) (main_v191 : IVec S8x20000 1) (main_v194 : IVec S8x20000 1) (main_v197 : FVec F S8 .f32) : IVec S_ 1 :=
  let main_c_14 : IVec S_ 32 := constantI S_ 32 0#32
  let main_v198 : IVec S8x20000 32 := broadcastInDim S8x20000 ![] bcast_S_S8x20000 main_c_14
  let main_v199 : IVec S8x20000 1 := cmpi .slt main_v188 main_v198
  let main_c_15 : IVec S_ 32 := constantI S_ 32 32#32
  let main_v200 : IVec S8x20000 32 := broadcastInDim S8x20000 ![] bcast_S_S8x20000 main_c_15
  let main_v201 : IVec S8x20000 32 := addi main_v188 main_v200
  let main_v202 : IVec S8x20000 32 := select main_v199 main_v201 main_v188
  let main_v203 : IVec S8x20000x1 32 := broadcastInDim S8x20000x1 ![0, 1] bcast_S8x20000_S8x20000x1_0_1 main_v202
  let main_v204 : FVec F S8x20000x5 .f32 := (fun x i => Host.gather gather_S8x32x5_S8x20000x1_S8x20000x5_2_1_0_0_1_2_115 x i) main_arg3 main_v203
  let main_v205 : FVec F S8x20000x1 .f32 := (extractStridedSlice S8x20000x1 ![0, 0, 4] · slices_S8x20000x5_S8x20000x1_0_0_4) main_v204
  let main_v206 : FVec F S8x20000 .f32 := shapeCast S8x20000 main_v205 shapeCasts_S8x20000x1_S8x20000
  let main_v207 : IVec S8x20000 32 := fptosi 32 main_v206
  let main_v208 : FVec F S8x20000x80 .f32 := fn_one_hot (F := F) main_v207
  let main_v209 : IVec S8x20000x1 1 := broadcastInDim S8x20000x1 ![0, 1] bcast_S8x20000_S8x20000x1_0_1 main_v191
  let main_v210 : IVec S8x20000x1 1 := broadcastInDim S8x20000x1 ![0, 1] bcast_S8x20000_S8x20000x1_0_1 main_v194
  let main_cst_16 : FVec F S_ .f32 := constant S_ .f32 0x00000000#32
  let main_cst_17 : FVec F S_ .f32 := constant S_ .f32 0xBF800000#32
  let main_v211 : FVec F S8x20000x1 .f32 := fn_where (F := F) main_v210 main_cst_16 main_cst_17
  let main_v212 : FVec F S8x20000x80 .f32 := fn_where_0 (F := F) main_v209 main_v208 main_v211
  let main_cst_18 : FVec F S_ .f32 := constant S_ .f32 0x3F800000#32
  let main_v213 : FVec F S8x20000x80 .f32 := broadcastInDim S8x20000x80 ![] bcast_S_S8x20000x80 main_cst_18
  let main_v214 : IVec S8x20000x80 1 := cmpf .oeq main_v212 main_v213
  let main_cst_19 : FVec F S_ .f32 := constant S_ .f32 0x3E800000#32
  let main_cst_20 : FVec F S_ .f32 := constant S_ .f32 0x3F400000#32
  fn_part10 (F := F) main_arg1 main_arg5 main_v5 main_v10 main_v15 main_v20 main_v21 main_v191 main_v197 main_v204 main_v212 main_v214 main_cst_19 main_cst_20

def fn_part8 {F : FTy → Type} [FloatOps F] (main_arg1 : FVec F S8x20000x4 .f32) (main_arg3 : FVec F S8x32x5 .f32) (main_arg5 : FVec F S2 .f32) (main_v5 : FVec F S20000 .f32) (main_v10 : FVec F S20000 .f32) (main_v15 : FVec F S20000 .f32) (main_v20 : FVec F S20000 .f32) (main_v21 : FVec F S8x20000x80 .f32) (main_v105 : IVec S8x20000 1) (main_v161 : FVec F S8x20000x32 .f32) (main_v163 : FVec F S8x20000x32 .f32) (main_v180 : FVec F S8x20000x32 .f32) : IVec S_ 1 :=
  let main_v181 : FVec F S8x20000x32 .f32 := mulf main_v161 main_v163
  let main_v182 : FVec F S8x20000x32 .f32 := subf main_v180 main_v181
  let main_cst_10 : FVec F S_ .f32 := constant S_ .f32 0x322BCC77#32
  let main_v183 : FVec F S8x20000x32 .f32 := broadcastInDim S8x20000x32 ![] bcast_S_S8x20000x32 main_cst_10
  let main_v184 : FVec F S8x20000x32 .f32 := maximumf main_v182 main_v183
  let main_v185 : FVec F S8x20000x32 .f32 := mulf main_v161 main_v163
  let main_v186 : FVec F S8x20000x32 .f32 := Host.divf main_v185 main_v184
  let main_cst_11 : FVec F S_ .f32 := constant S_ .f32 0xFF800000#32
  let main_v187 : FVec F S8x20000 .f32 := (fun x v => Host.reduce FloatOps.maximumf x v reducesTo_S8x20000x32_S8x20000_d2 h_S_) main_v186 main_cst_11
  let main_values : FVec F S8x20000x1 .f32 := (fun x => (Host.topK S8x20000x1 2 (FloatOps.cmpfTotal .gt) x sliceFits_S8x20000x32_S8x20000x1).1) main_v186
  let main_indices : IVec S8x20000x1 32 := (fun x => (Host.topK S8x20000x1 2 (FloatOps.cmpfTotal .gt) x sliceFits_S8x20000x32_S8x20000x1).2) main_v186
  let main_v188 : IVec S8x20000 32 := shapeCast S8x20000 main_indices shapeCasts_S8x20000x1_S8x20000
  let main_cst_12 : FVec F S_ .f32 := constant S_ .f32 0x3F000000#32
  let main_v189 : FVec F S8x20000 .f32 := broadcastInDim S8x20000 ![] bcast_S_S8x20000 main_cst_12
  let main_v190 : IVec S8x20000 1 := cmpf .oge main_v187 main_v189
  let main_v191 : IVec S8x20000 1 := andi main_v190 main_v105
  let main_cst_13 : FVec F S_ .f32 := constant S_ .f32 0x3ECCCCCD#32
  let main_v192 : FVec F S8x20000 .f32 := broadcastInDim S8x20000 ![] bcast_S_S8x20000 main_cst_13
  let main_v193 : IVec S8x20000 1 := cmpf .olt main_v187 main_v192
  let main_v194 : IVec S8x20000 1 := andi main_v193 main_v105
  let main_v195 : IVec S8x20000 32 := (extui 32 · natLt_1_32) main_v191
  let main_c : IVec S_ 32 := constantI S_ 32 0#32
  let main_v196 : IVec S8 32 := (fun x v => Host.reduce IntOp.addi x v reducesTo_S8x20000_S8_d1 h_S_) main_v195 main_c
  let main_v197 : FVec F S8 .f32 := sitofp .f32 main_v196
  fn_part9 (F := F) main_arg1 main_arg3 main_arg5 main_v5 main_v10 main_v15 main_v20 main_v21 main_v188 main_v191 main_v194 main_v197

def fn_part7 {F : FTy → Type} [FloatOps F] (main_arg1 : FVec F S8x20000x4 .f32) (main_arg3 : FVec F S8x32x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_v21 : FVec F S8x20000x80 .f32) (main_v105 : IVec S8x20000 1) (main_v117 : FVec F S8x32 .f32) (main_v138 : FVec F S8x20000x32 .f32) (main_v148 : FVec F S8x20000x32 .f32) (main_v158 : FVec F S8x20000x32 .f32) : IVec S_ 1 :=
  let main_v159 : FVec F S8x20000x32 .f32 := subf main_v148 main_v158
  let main_cst_8 : FVec F S_ .f32 := constant S_ .f32 0x00000000#32
  let main_v160 : FVec F S8x20000x32 .f32 := broadcastInDim S8x20000x32 ![] bcast_S_S8x20000x32 main_cst_8
  let main_v161 : FVec F S8x20000x32 .f32 := maximumf main_v138 main_v160
  let main_cst_9 : FVec F S_ .f32 := constant S_ .f32 0x00000000#32
  let main_v162 : FVec F S8x20000x32 .f32 := broadcastInDim S8x20000x32 ![] bcast_S_S8x20000x32 main_cst_9
  let main_v163 : FVec F S8x20000x32 .f32 := maximumf main_v159 main_v162
  let main_v164 : FVec F S20000x1 .f32 := (extractStridedSlice S20000x1 ![0, 2] · slices_S20000x4_S20000x1_0_2) main_v0
  let main_v165 : FVec F S20000 .f32 := shapeCast S20000 main_v164 shapeCasts_S20000x1_S20000
  let main_v166 : FVec F S20000x1 .f32 := (extractStridedSlice S20000x1 ![0, 0] · slices_S20000x4_S20000x1_0_0) main_v0
  let main_v167 : FVec F S20000 .f32 := shapeCast S20000 main_v166 shapeCasts_S20000x1_S20000
  let main_v168 : FVec F S20000 .f32 := subf main_v165 main_v167
  let main_v169 : FVec F S20000x1 .f32 := (extractStridedSlice S20000x1 ![0, 3] · slices_S20000x4_S20000x1_0_3) main_v0
  let main_v170 : FVec F S20000 .f32 := shapeCast S20000 main_v169 shapeCasts_S20000x1_S20000
  let main_v171 : FVec F S20000x1 .f32 := (extractStridedSlice S20000x1 ![0, 1] · slices_S20000x4_S20000x1_0_1) main_v0
  let main_v172 : FVec F S20000 .f32 := shapeCast S20000 main_v171 shapeCasts_S20000x1_S20000
  let main_v173 : FVec F S20000 .f32 := subf main_v170 main_v172
  let main_v174 : FVec F S20000 .f32 := mulf main_v168 main_v173
  let main_v175 : FVec F S20000x1 .f32 := broadcastInDim S20000x1 ![0] bcast_S20000_S20000x1_0 main_v174
  let main_v176 : FVec F S8x1x32 .f32 := broadcastInDim S8x1x32 ![0, 2] bcast_S8x32_S8x1x32_0_2 main_v117
  let main_v177 : FVec F S1x20000x1 .f32 := broadcastInDim S1x20000x1 ![1, 2] bcast_S20000x1_S1x20000x1_1_2 main_v175
  let main_v178 : FVec F S8x20000x32 .f32 := broadcastInDim S8x20000x32 ![0, 1, 2] bcast_S1x20000x1_S8x20000x32_0_1_2 main_v177
  let main_v179 : FVec F S8x20000x32 .f32 := broadcastInDim S8x20000x32 ![0, 1, 2] bcast_S8x1x32_S8x20000x32_0_1_2 main_v176
  let main_v180 : FVec F S8x20000x32 .f32 := addf main_v178 main_v179
  fn_part8 (F := F) main_arg1 main_arg3 main_arg5 main_v5 main_v10 main_v15 main_v20 main_v21 main_v105 main_v161 main_v163 main_v180

def fn_part6 {F : FTy → Type} [FloatOps F] (main_arg1 : FVec F S8x20000x4 .f32) (main_arg3 : FVec F S8x32x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_v21 : FVec F S8x20000x80 .f32) (main_v105 : IVec S8x20000 1) (main_v106 : FVec F S8x32x4 .f32) (main_v117 : FVec F S8x32 .f32) (main_v127 : FVec F S8x20000x32 .f32) (main_v133 : FVec F S8x1x32 .f32) (main_v134 : FVec F S1x20000x1 .f32) : IVec S_ 1 :=
  let main_v135 : FVec F S8x20000x32 .f32 := broadcastInDim S8x20000x32 ![0, 1, 2] bcast_S1x20000x1_S8x20000x32_0_1_2 main_v134
  let main_v136 : FVec F S8x20000x32 .f32 := broadcastInDim S8x20000x32 ![0, 1, 2] bcast_S8x1x32_S8x20000x32_0_1_2 main_v133
  let main_v137 : FVec F S8x20000x32 .f32 := maximumf main_v135 main_v136
  let main_v138 : FVec F S8x20000x32 .f32 := subf main_v127 main_v137
  let main_v139 : FVec F S20000x1 .f32 := (extractStridedSlice S20000x1 ![0, 3] · slices_S20000x4_S20000x1_0_3) main_v0
  let main_v140 : FVec F S20000 .f32 := shapeCast S20000 main_v139 shapeCasts_S20000x1_S20000
  let main_v141 : FVec F S20000x1 .f32 := broadcastInDim S20000x1 ![0] bcast_S20000_S20000x1_0 main_v140
  let main_v142 : FVec F S8x32x1 .f32 := (extractStridedSlice S8x32x1 ![0, 0, 3] · slices_S8x32x4_S8x32x1_0_0_3) main_v106
  let main_v143 : FVec F S8x32 .f32 := shapeCast S8x32 main_v142 shapeCasts_S8x32x1_S8x32
  let main_v144 : FVec F S8x1x32 .f32 := broadcastInDim S8x1x32 ![0, 2] bcast_S8x32_S8x1x32_0_2 main_v143
  let main_v145 : FVec F S1x20000x1 .f32 := broadcastInDim S1x20000x1 ![1, 2] bcast_S20000x1_S1x20000x1_1_2 main_v141
  let main_v146 : FVec F S8x20000x32 .f32 := broadcastInDim S8x20000x32 ![0, 1, 2] bcast_S1x20000x1_S8x20000x32_0_1_2 main_v145
  let main_v147 : FVec F S8x20000x32 .f32 := broadcastInDim S8x20000x32 ![0, 1, 2] bcast_S8x1x32_S8x20000x32_0_1_2 main_v144
  let main_v148 : FVec F S8x20000x32 .f32 := minimumf main_v146 main_v147
  let main_v149 : FVec F S20000x1 .f32 := (extractStridedSlice S20000x1 ![0, 1] · slices_S20000x4_S20000x1_0_1) main_v0
  let main_v150 : FVec F S20000 .f32 := shapeCast S20000 main_v149 shapeCasts_S20000x1_S20000
  let main_v151 : FVec F S20000x1 .f32 := broadcastInDim S20000x1 ![0] bcast_S20000_S20000x1_0 main_v150
  let main_v152 : FVec F S8x32x1 .f32 := (extractStridedSlice S8x32x1 ![0, 0, 1] · slices_S8x32x4_S8x32x1_0_0_1) main_v106
  let main_v153 : FVec F S8x32 .f32 := shapeCast S8x32 main_v152 shapeCasts_S8x32x1_S8x32
  let main_v154 : FVec F S8x1x32 .f32 := broadcastInDim S8x1x32 ![0, 2] bcast_S8x32_S8x1x32_0_2 main_v153
  let main_v155 : FVec F S1x20000x1 .f32 := broadcastInDim S1x20000x1 ![1, 2] bcast_S20000x1_S1x20000x1_1_2 main_v151
  let main_v156 : FVec F S8x20000x32 .f32 := broadcastInDim S8x20000x32 ![0, 1, 2] bcast_S1x20000x1_S8x20000x32_0_1_2 main_v155
  let main_v157 : FVec F S8x20000x32 .f32 := broadcastInDim S8x20000x32 ![0, 1, 2] bcast_S8x1x32_S8x20000x32_0_1_2 main_v154
  let main_v158 : FVec F S8x20000x32 .f32 := maximumf main_v156 main_v157
  fn_part7 (F := F) main_arg1 main_arg3 main_arg5 main_v0 main_v5 main_v10 main_v15 main_v20 main_v21 main_v105 main_v117 main_v138 main_v148 main_v158

def fn_part5 {F : FTy → Type} [FloatOps F] (main_arg1 : FVec F S8x20000x4 .f32) (main_arg3 : FVec F S8x32x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_v21 : FVec F S8x20000x80 .f32) (main_v105 : IVec S8x20000 1) (main_v106 : FVec F S8x32x4 .f32) (main_v108 : FVec F S8x32 .f32) (main_v110 : FVec F S8x32 .f32) : IVec S_ 1 :=
  let main_v111 : FVec F S8x32 .f32 := subf main_v108 main_v110
  let main_v112 : FVec F S8x32x1 .f32 := (extractStridedSlice S8x32x1 ![0, 0, 3] · slices_S8x32x4_S8x32x1_0_0_3) main_v106
  let main_v113 : FVec F S8x32 .f32 := shapeCast S8x32 main_v112 shapeCasts_S8x32x1_S8x32
  let main_v114 : FVec F S8x32x1 .f32 := (extractStridedSlice S8x32x1 ![0, 0, 1] · slices_S8x32x4_S8x32x1_0_0_1) main_v106
  let main_v115 : FVec F S8x32 .f32 := shapeCast S8x32 main_v114 shapeCasts_S8x32x1_S8x32
  let main_v116 : FVec F S8x32 .f32 := subf main_v113 main_v115
  let main_v117 : FVec F S8x32 .f32 := mulf main_v111 main_v116
  let main_v118 : FVec F S20000x1 .f32 := (extractStridedSlice S20000x1 ![0, 2] · slices_S20000x4_S20000x1_0_2) main_v0
  let main_v119 : FVec F S20000 .f32 := shapeCast S20000 main_v118 shapeCasts_S20000x1_S20000
  let main_v120 : FVec F S20000x1 .f32 := broadcastInDim S20000x1 ![0] bcast_S20000_S20000x1_0 main_v119
  let main_v121 : FVec F S8x32x1 .f32 := (extractStridedSlice S8x32x1 ![0, 0, 2] · slices_S8x32x4_S8x32x1_0_0_2) main_v106
  let main_v122 : FVec F S8x32 .f32 := shapeCast S8x32 main_v121 shapeCasts_S8x32x1_S8x32
  let main_v123 : FVec F S8x1x32 .f32 := broadcastInDim S8x1x32 ![0, 2] bcast_S8x32_S8x1x32_0_2 main_v122
  let main_v124 : FVec F S1x20000x1 .f32 := broadcastInDim S1x20000x1 ![1, 2] bcast_S20000x1_S1x20000x1_1_2 main_v120
  let main_v125 : FVec F S8x20000x32 .f32 := broadcastInDim S8x20000x32 ![0, 1, 2] bcast_S1x20000x1_S8x20000x32_0_1_2 main_v124
  let main_v126 : FVec F S8x20000x32 .f32 := broadcastInDim S8x20000x32 ![0, 1, 2] bcast_S8x1x32_S8x20000x32_0_1_2 main_v123
  let main_v127 : FVec F S8x20000x32 .f32 := minimumf main_v125 main_v126
  let main_v128 : FVec F S20000x1 .f32 := (extractStridedSlice S20000x1 ![0, 0] · slices_S20000x4_S20000x1_0_0) main_v0
  let main_v129 : FVec F S20000 .f32 := shapeCast S20000 main_v128 shapeCasts_S20000x1_S20000
  let main_v130 : FVec F S20000x1 .f32 := broadcastInDim S20000x1 ![0] bcast_S20000_S20000x1_0 main_v129
  let main_v131 : FVec F S8x32x1 .f32 := (extractStridedSlice S8x32x1 ![0, 0, 0] · slices_S8x32x4_S8x32x1_0_0_0) main_v106
  let main_v132 : FVec F S8x32 .f32 := shapeCast S8x32 main_v131 shapeCasts_S8x32x1_S8x32
  let main_v133 : FVec F S8x1x32 .f32 := broadcastInDim S8x1x32 ![0, 2] bcast_S8x32_S8x1x32_0_2 main_v132
  let main_v134 : FVec F S1x20000x1 .f32 := broadcastInDim S1x20000x1 ![1, 2] bcast_S20000x1_S1x20000x1_1_2 main_v130
  fn_part6 (F := F) main_arg1 main_arg3 main_arg5 main_v0 main_v5 main_v10 main_v15 main_v20 main_v21 main_v105 main_v106 main_v117 main_v127 main_v133 main_v134

def fn_part4 {F : FTy → Type} [FloatOps F] (main_arg1 : FVec F S8x20000x4 .f32) (main_arg3 : FVec F S8x32x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_v21 : FVec F S8x20000x80 .f32) (main_v33 : FVec F S8x8 .f32) (main_v77 : FVec F S8x20000x8 .f32) (main_v79 : FVec F S8x20000x8 .f32) (main_v84 : FVec F S20000 .f32) (main_v89 : FVec F S20000 .f32) : IVec S_ 1 :=
  let main_v90 : FVec F S20000 .f32 := mulf main_v84 main_v89
  let main_v91 : FVec F S20000x1 .f32 := broadcastInDim S20000x1 ![0] bcast_S20000_S20000x1_0 main_v90
  let main_v92 : FVec F S8x1x8 .f32 := broadcastInDim S8x1x8 ![0, 2] bcast_S8x8_S8x1x8_0_2 main_v33
  let main_v93 : FVec F S1x20000x1 .f32 := broadcastInDim S1x20000x1 ![1, 2] bcast_S20000x1_S1x20000x1_1_2 main_v91
  let main_v94 : FVec F S8x20000x8 .f32 := broadcastInDim S8x20000x8 ![0, 1, 2] bcast_S1x20000x1_S8x20000x8_0_1_2 main_v93
  let main_v95 : FVec F S8x20000x8 .f32 := broadcastInDim S8x20000x8 ![0, 1, 2] bcast_S8x1x8_S8x20000x8_0_1_2 main_v92
  let main_v96 : FVec F S8x20000x8 .f32 := addf main_v94 main_v95
  let main_v97 : FVec F S8x20000x8 .f32 := mulf main_v77 main_v79
  let main_v98 : FVec F S8x20000x8 .f32 := subf main_v96 main_v97
  let main_cst_5 : FVec F S_ .f32 := constant S_ .f32 0x322BCC77#32
  let main_v99 : FVec F S8x20000x8 .f32 := broadcastInDim S8x20000x8 ![] bcast_S_S8x20000x8 main_cst_5
  let main_v100 : FVec F S8x20000x8 .f32 := maximumf main_v98 main_v99
  let main_v101 : FVec F S8x20000x8 .f32 := mulf main_v77 main_v79
  let main_v102 : FVec F S8x20000x8 .f32 := Host.divf main_v101 main_v100
  let main_cst_6 : FVec F S_ .f32 := constant S_ .f32 0xFF800000#32
  let main_v103 : FVec F S8x20000 .f32 := (fun x v => Host.reduce FloatOps.maximumf x v reducesTo_S8x20000x8_S8x20000_d2 h_S_) main_v102 main_cst_6
  let main_cst_7 : FVec F S_ .f32 := constant S_ .f32 0x3F000000#32
  let main_v104 : FVec F S8x20000 .f32 := broadcastInDim S8x20000 ![] bcast_S_S8x20000 main_cst_7
  let main_v105 : IVec S8x20000 1 := cmpf .olt main_v103 main_v104
  let main_v106 : FVec F S8x32x4 .f32 := (extractStridedSlice S8x32x4 ![0, 0, 0] · slices_S8x32x5_S8x32x4_0_0_0) main_arg3
  let main_v107 : FVec F S8x32x1 .f32 := (extractStridedSlice S8x32x1 ![0, 0, 2] · slices_S8x32x4_S8x32x1_0_0_2) main_v106
  let main_v108 : FVec F S8x32 .f32 := shapeCast S8x32 main_v107 shapeCasts_S8x32x1_S8x32
  let main_v109 : FVec F S8x32x1 .f32 := (extractStridedSlice S8x32x1 ![0, 0, 0] · slices_S8x32x4_S8x32x1_0_0_0) main_v106
  let main_v110 : FVec F S8x32 .f32 := shapeCast S8x32 main_v109 shapeCasts_S8x32x1_S8x32
  fn_part5 (F := F) main_arg1 main_arg3 main_arg5 main_v0 main_v5 main_v10 main_v15 main_v20 main_v21 main_v105 main_v106 main_v108 main_v110

def fn_part3 {F : FTy → Type} [FloatOps F] (main_arg1 : FVec F S8x20000x4 .f32) (main_arg3 : FVec F S8x32x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_v21 : FVec F S8x20000x80 .f32) (main_v22 : FVec F S8x8x4 .f32) (main_v33 : FVec F S8x8 .f32) (main_v54 : FVec F S8x20000x8 .f32) (main_v64 : FVec F S8x20000x8 .f32) (main_v67 : FVec F S20000x1 .f32) : IVec S_ 1 :=
  let main_v68 : FVec F S8x8x1 .f32 := (extractStridedSlice S8x8x1 ![0, 0, 1] · slices_S8x8x4_S8x8x1_0_0_1) main_v22
  let main_v69 : FVec F S8x8 .f32 := shapeCast S8x8 main_v68 shapeCasts_S8x8x1_S8x8
  let main_v70 : FVec F S8x1x8 .f32 := broadcastInDim S8x1x8 ![0, 2] bcast_S8x8_S8x1x8_0_2 main_v69
  let main_v71 : FVec F S1x20000x1 .f32 := broadcastInDim S1x20000x1 ![1, 2] bcast_S20000x1_S1x20000x1_1_2 main_v67
  let main_v72 : FVec F S8x20000x8 .f32 := broadcastInDim S8x20000x8 ![0, 1, 2] bcast_S1x20000x1_S8x20000x8_0_1_2 main_v71
  let main_v73 : FVec F S8x20000x8 .f32 := broadcastInDim S8x20000x8 ![0, 1, 2] bcast_S8x1x8_S8x20000x8_0_1_2 main_v70
  let main_v74 : FVec F S8x20000x8 .f32 := maximumf main_v72 main_v73
  let main_v75 : FVec F S8x20000x8 .f32 := subf main_v64 main_v74
  let main_cst_3 : FVec F S_ .f32 := constant S_ .f32 0x00000000#32
  let main_v76 : FVec F S8x20000x8 .f32 := broadcastInDim S8x20000x8 ![] bcast_S_S8x20000x8 main_cst_3
  let main_v77 : FVec F S8x20000x8 .f32 := maximumf main_v54 main_v76
  let main_cst_4 : FVec F S_ .f32 := constant S_ .f32 0x00000000#32
  let main_v78 : FVec F S8x20000x8 .f32 := broadcastInDim S8x20000x8 ![] bcast_S_S8x20000x8 main_cst_4
  let main_v79 : FVec F S8x20000x8 .f32 := maximumf main_v75 main_v78
  let main_v80 : FVec F S20000x1 .f32 := (extractStridedSlice S20000x1 ![0, 2] · slices_S20000x4_S20000x1_0_2) main_v0
  let main_v81 : FVec F S20000 .f32 := shapeCast S20000 main_v80 shapeCasts_S20000x1_S20000
  let main_v82 : FVec F S20000x1 .f32 := (extractStridedSlice S20000x1 ![0, 0] · slices_S20000x4_S20000x1_0_0) main_v0
  let main_v83 : FVec F S20000 .f32 := shapeCast S20000 main_v82 shapeCasts_S20000x1_S20000
  let main_v84 : FVec F S20000 .f32 := subf main_v81 main_v83
  let main_v85 : FVec F S20000x1 .f32 := (extractStridedSlice S20000x1 ![0, 3] · slices_S20000x4_S20000x1_0_3) main_v0
  let main_v86 : FVec F S20000 .f32 := shapeCast S20000 main_v85 shapeCasts_S20000x1_S20000
  let main_v87 : FVec F S20000x1 .f32 := (extractStridedSlice S20000x1 ![0, 1] · slices_S20000x4_S20000x1_0_1) main_v0
  let main_v88 : FVec F S20000 .f32 := shapeCast S20000 main_v87 shapeCasts_S20000x1_S20000
  let main_v89 : FVec F S20000 .f32 := subf main_v86 main_v88
  fn_part4 (F := F) main_arg1 main_arg3 main_arg5 main_v0 main_v5 main_v10 main_v15 main_v20 main_v21 main_v33 main_v77 main_v79 main_v84 main_v89

def fn_part2 {F : FTy → Type} [FloatOps F] (main_arg1 : FVec F S8x20000x4 .f32) (main_arg3 : FVec F S8x32x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_v21 : FVec F S8x20000x80 .f32) (main_v22 : FVec F S8x8x4 .f32) (main_v33 : FVec F S8x8 .f32) (main_v43 : FVec F S8x20000x8 .f32) : IVec S_ 1 :=
  let main_v44 : FVec F S20000x1 .f32 := (extractStridedSlice S20000x1 ![0, 0] · slices_S20000x4_S20000x1_0_0) main_v0
  let main_v45 : FVec F S20000 .f32 := shapeCast S20000 main_v44 shapeCasts_S20000x1_S20000
  let main_v46 : FVec F S20000x1 .f32 := broadcastInDim S20000x1 ![0] bcast_S20000_S20000x1_0 main_v45
  let main_v47 : FVec F S8x8x1 .f32 := (extractStridedSlice S8x8x1 ![0, 0, 0] · slices_S8x8x4_S8x8x1_0_0_0) main_v22
  let main_v48 : FVec F S8x8 .f32 := shapeCast S8x8 main_v47 shapeCasts_S8x8x1_S8x8
  let main_v49 : FVec F S8x1x8 .f32 := broadcastInDim S8x1x8 ![0, 2] bcast_S8x8_S8x1x8_0_2 main_v48
  let main_v50 : FVec F S1x20000x1 .f32 := broadcastInDim S1x20000x1 ![1, 2] bcast_S20000x1_S1x20000x1_1_2 main_v46
  let main_v51 : FVec F S8x20000x8 .f32 := broadcastInDim S8x20000x8 ![0, 1, 2] bcast_S1x20000x1_S8x20000x8_0_1_2 main_v50
  let main_v52 : FVec F S8x20000x8 .f32 := broadcastInDim S8x20000x8 ![0, 1, 2] bcast_S8x1x8_S8x20000x8_0_1_2 main_v49
  let main_v53 : FVec F S8x20000x8 .f32 := maximumf main_v51 main_v52
  let main_v54 : FVec F S8x20000x8 .f32 := subf main_v43 main_v53
  let main_v55 : FVec F S20000x1 .f32 := (extractStridedSlice S20000x1 ![0, 3] · slices_S20000x4_S20000x1_0_3) main_v0
  let main_v56 : FVec F S20000 .f32 := shapeCast S20000 main_v55 shapeCasts_S20000x1_S20000
  let main_v57 : FVec F S20000x1 .f32 := broadcastInDim S20000x1 ![0] bcast_S20000_S20000x1_0 main_v56
  let main_v58 : FVec F S8x8x1 .f32 := (extractStridedSlice S8x8x1 ![0, 0, 3] · slices_S8x8x4_S8x8x1_0_0_3) main_v22
  let main_v59 : FVec F S8x8 .f32 := shapeCast S8x8 main_v58 shapeCasts_S8x8x1_S8x8
  let main_v60 : FVec F S8x1x8 .f32 := broadcastInDim S8x1x8 ![0, 2] bcast_S8x8_S8x1x8_0_2 main_v59
  let main_v61 : FVec F S1x20000x1 .f32 := broadcastInDim S1x20000x1 ![1, 2] bcast_S20000x1_S1x20000x1_1_2 main_v57
  let main_v62 : FVec F S8x20000x8 .f32 := broadcastInDim S8x20000x8 ![0, 1, 2] bcast_S1x20000x1_S8x20000x8_0_1_2 main_v61
  let main_v63 : FVec F S8x20000x8 .f32 := broadcastInDim S8x20000x8 ![0, 1, 2] bcast_S8x1x8_S8x20000x8_0_1_2 main_v60
  let main_v64 : FVec F S8x20000x8 .f32 := minimumf main_v62 main_v63
  let main_v65 : FVec F S20000x1 .f32 := (extractStridedSlice S20000x1 ![0, 1] · slices_S20000x4_S20000x1_0_1) main_v0
  let main_v66 : FVec F S20000 .f32 := shapeCast S20000 main_v65 shapeCasts_S20000x1_S20000
  let main_v67 : FVec F S20000x1 .f32 := broadcastInDim S20000x1 ![0] bcast_S20000_S20000x1_0 main_v66
  fn_part3 (F := F) main_arg1 main_arg3 main_arg5 main_v0 main_v5 main_v10 main_v15 main_v20 main_v21 main_v22 main_v33 main_v54 main_v64 main_v67

def fn_part1 {F : FTy → Type} [FloatOps F] (main_arg0 : FVec F S8x20000x80 .f32) (main_arg1 : FVec F S8x20000x4 .f32) (main_arg3 : FVec F S8x32x5 .f32) (main_arg4 : FVec F S8x8x5 .f32) (main_arg5 : FVec F S2 .f32) (main_v0 : FVec F S20000x4 .f32) (main_v5 : FVec F S20000 .f32) (main_v10 : FVec F S20000 .f32) (main_v15 : FVec F S20000 .f32) (main_v20 : FVec F S20000 .f32) (main_cst_1 : FVec F S_ .f32) : IVec S_ 1 :=
  let main_cst_2 : FVec F S_ .f32 := constant S_ .f32 0x3F7FF972#32
  let main_v21 : FVec F S8x20000x80 .f32 := fn_clip (F := F) main_arg0 main_cst_1 main_cst_2
  let main_v22 : FVec F S8x8x4 .f32 := (extractStridedSlice S8x8x4 ![0, 0, 0] · slices_S8x8x5_S8x8x4_0_0_0) main_arg4
  let main_v23 : FVec F S8x8x1 .f32 := (extractStridedSlice S8x8x1 ![0, 0, 2] · slices_S8x8x4_S8x8x1_0_0_2) main_v22
  let main_v24 : FVec F S8x8 .f32 := shapeCast S8x8 main_v23 shapeCasts_S8x8x1_S8x8
  let main_v25 : FVec F S8x8x1 .f32 := (extractStridedSlice S8x8x1 ![0, 0, 0] · slices_S8x8x4_S8x8x1_0_0_0) main_v22
  let main_v26 : FVec F S8x8 .f32 := shapeCast S8x8 main_v25 shapeCasts_S8x8x1_S8x8
  let main_v27 : FVec F S8x8 .f32 := subf main_v24 main_v26
  let main_v28 : FVec F S8x8x1 .f32 := (extractStridedSlice S8x8x1 ![0, 0, 3] · slices_S8x8x4_S8x8x1_0_0_3) main_v22
  let main_v29 : FVec F S8x8 .f32 := shapeCast S8x8 main_v28 shapeCasts_S8x8x1_S8x8
  let main_v30 : FVec F S8x8x1 .f32 := (extractStridedSlice S8x8x1 ![0, 0, 1] · slices_S8x8x4_S8x8x1_0_0_1) main_v22
  let main_v31 : FVec F S8x8 .f32 := shapeCast S8x8 main_v30 shapeCasts_S8x8x1_S8x8
  let main_v32 : FVec F S8x8 .f32 := subf main_v29 main_v31
  let main_v33 : FVec F S8x8 .f32 := mulf main_v27 main_v32
  let main_v34 : FVec F S20000x1 .f32 := (extractStridedSlice S20000x1 ![0, 2] · slices_S20000x4_S20000x1_0_2) main_v0
  let main_v35 : FVec F S20000 .f32 := shapeCast S20000 main_v34 shapeCasts_S20000x1_S20000
  let main_v36 : FVec F S20000x1 .f32 := broadcastInDim S20000x1 ![0] bcast_S20000_S20000x1_0 main_v35
  let main_v37 : FVec F S8x8x1 .f32 := (extractStridedSlice S8x8x1 ![0, 0, 2] · slices_S8x8x4_S8x8x1_0_0_2) main_v22
  let main_v38 : FVec F S8x8 .f32 := shapeCast S8x8 main_v37 shapeCasts_S8x8x1_S8x8
  let main_v39 : FVec F S8x1x8 .f32 := broadcastInDim S8x1x8 ![0, 2] bcast_S8x8_S8x1x8_0_2 main_v38
  let main_v40 : FVec F S1x20000x1 .f32 := broadcastInDim S1x20000x1 ![1, 2] bcast_S20000x1_S1x20000x1_1_2 main_v36
  let main_v41 : FVec F S8x20000x8 .f32 := broadcastInDim S8x20000x8 ![0, 1, 2] bcast_S1x20000x1_S8x20000x8_0_1_2 main_v40
  let main_v42 : FVec F S8x20000x8 .f32 := broadcastInDim S8x20000x8 ![0, 1, 2] bcast_S8x1x8_S8x20000x8_0_1_2 main_v39
  let main_v43 : FVec F S8x20000x8 .f32 := minimumf main_v41 main_v42
  fn_part2 (F := F) main_arg1 main_arg3 main_arg5 main_v0 main_v5 main_v10 main_v15 main_v20 main_v21 main_v22 main_v33 main_v43

def fn {F : FTy → Type} [FloatOps F] (main_arg0 : FVec F S8x20000x80 .f32) (main_arg1 : FVec F S8x20000x4 .f32) (main_arg2 : FVec F S1x20000x4 .f32) (main_arg3 : FVec F S8x32x5 .f32) (main_arg4 : FVec F S8x8x5 .f32) (main_arg5 : FVec F S2 .f32) : IVec S_ 1 :=
  let main_v0 : FVec F S20000x4 .f32 := shapeCast S20000x4 main_arg2 shapeCasts_S1x20000x4_S20000x4
  let main_v1 : FVec F S20000x1 .f32 := (extractStridedSlice S20000x1 ![0, 2] · slices_S20000x4_S20000x1_0_2) main_v0
  let main_v2 : FVec F S20000 .f32 := shapeCast S20000 main_v1 shapeCasts_S20000x1_S20000
  let main_v3 : FVec F S20000x1 .f32 := (extractStridedSlice S20000x1 ![0, 0] · slices_S20000x4_S20000x1_0_0) main_v0
  let main_v4 : FVec F S20000 .f32 := shapeCast S20000 main_v3 shapeCasts_S20000x1_S20000
  let main_v5 : FVec F S20000 .f32 := subf main_v2 main_v4
  let main_v6 : FVec F S20000x1 .f32 := (extractStridedSlice S20000x1 ![0, 3] · slices_S20000x4_S20000x1_0_3) main_v0
  let main_v7 : FVec F S20000 .f32 := shapeCast S20000 main_v6 shapeCasts_S20000x1_S20000
  let main_v8 : FVec F S20000x1 .f32 := (extractStridedSlice S20000x1 ![0, 1] · slices_S20000x4_S20000x1_0_1) main_v0
  let main_v9 : FVec F S20000 .f32 := shapeCast S20000 main_v8 shapeCasts_S20000x1_S20000
  let main_v10 : FVec F S20000 .f32 := subf main_v7 main_v9
  let main_v11 : FVec F S20000x1 .f32 := (extractStridedSlice S20000x1 ![0, 0] · slices_S20000x4_S20000x1_0_0) main_v0
  let main_v12 : FVec F S20000 .f32 := shapeCast S20000 main_v11 shapeCasts_S20000x1_S20000
  let main_cst : FVec F S_ .f32 := constant S_ .f32 0x3F000000#32
  let main_v13 : FVec F S20000 .f32 := broadcastInDim S20000 ![] bcast_S_S20000 main_cst
  let main_v14 : FVec F S20000 .f32 := mulf main_v13 main_v5
  let main_v15 : FVec F S20000 .f32 := addf main_v12 main_v14
  let main_v16 : FVec F S20000x1 .f32 := (extractStridedSlice S20000x1 ![0, 1] · slices_S20000x4_S20000x1_0_1) main_v0
  let main_v17 : FVec F S20000 .f32 := shapeCast S20000 main_v16 shapeCasts_S20000x1_S20000
  let main_cst_0 : FVec F S_ .f32 := constant S_ .f32 0x3F000000#32
  let main_v18 : FVec F S20000 .f32 := broadcastInDim S20000 ![] bcast_S_S20000 main_cst_0
  let main_v19 : FVec F S20000 .f32 := mulf main_v18 main_v10
  let main_v20 : FVec F S20000 .f32 := addf main_v17 main_v19
  let main_cst_1 : FVec F S_ .f32 := constant S_ .f32 0x38D1B717#32
  fn_part1 (F := F) main_arg0 main_arg1 main_arg3 main_arg4 main_arg5 main_v0 main_v5 main_v10 main_v15 main_v20 main_cst_1
-- ==== Pre_drawn_range.lean ====
abbrev S8x20000x80 : Shape := ⟨3, ![8, 20000, 80]⟩
abbrev S8x20000x4 : Shape := ⟨3, ![8, 20000, 4]⟩
abbrev S1x20000x4 : Shape := ⟨3, ![1, 20000, 4]⟩
abbrev S8x32x5 : Shape := ⟨3, ![8, 32, 5]⟩
abbrev S8x8x5 : Shape := ⟨3, ![8, 8, 5]⟩
abbrev S8x32x1 : Shape := ⟨3, ![8, 32, 1]⟩
abbrev S8x32 : Shape := ⟨2, ![8, 32]⟩
abbrev S_ : Shape := ⟨0, ![]⟩

class Facts : Prop where
  slices_S8x32x5_S8x32x1_0_0_4 : S8x32x5.Slices ![0, 0, 4] S8x32x1
  shapeCasts_S8x32x1_S8x32 : S8x32x1.ShapeCasts S8x32
  bcast_S_S8x20000x80 : S_.BroadcastsInDim S8x20000x80 (![] : Fin 0 → Fin S8x20000x80.rank)
  reducesTo_S8x20000x80_S_d0_1_2 : S8x20000x80.ReducesTo [0, 1, 2] S_
  h_S_ : 0 < S_.numel
  bcast_S_S8x32 : S_.BroadcastsInDim S8x32 (![] : Fin 0 → Fin S8x32.rank)
  reducesTo_S8x32_S_d0_1 : S8x32.ReducesTo [0, 1] S_

variable [Facts]

def fn {F : FTy → Type} [FloatOps F] (main_arg0 : FVec F S8x20000x80 .f32) (main_arg1 : FVec F S8x20000x4 .f32) (main_arg2 : FVec F S1x20000x4 .f32) (main_arg3 : FVec F S8x32x5 .f32) (main_arg4 : FVec F S8x8x5 .f32) : IVec S_ 1 :=
  let main_v0 : FVec F S8x32x1 .f32 := (extractStridedSlice S8x32x1 ![0, 0, 4] · slices_S8x32x5_S8x32x1_0_0_4) main_arg3
  let main_v1 : FVec F S8x32 .f32 := shapeCast S8x32 main_v0 shapeCasts_S8x32x1_S8x32
  let main_v2 : IVec S8x32 32 := fptosi 32 main_v1
  let main_cst : FVec F S_ .f32 := constant S_ .f32 0x00000000#32
  let main_v3 : FVec F S8x20000x80 .f32 := broadcastInDim S8x20000x80 ![] bcast_S_S8x20000x80 main_cst
  let main_v4 : IVec S8x20000x80 1 := cmpf .oge main_arg0 main_v3
  let main_c : IVec S_ 1 := constantI S_ 1 1#1
  let main_v5 : IVec S_ 1 := (fun x v => Host.reduce IntOp.andi x v reducesTo_S8x20000x80_S_d0_1_2 h_S_) main_v4 main_c
  let main_c_0 : IVec S_ 32 := constantI S_ 32 0#32
  let main_v6 : IVec S8x32 32 := broadcastInDim S8x32 ![] bcast_S_S8x32 main_c_0
  let main_v7 : IVec S8x32 1 := cmpi .sge main_v2 main_v6
  let main_c_1 : IVec S_ 1 := constantI S_ 1 1#1
  let main_v8 : IVec S_ 1 := (fun x v => Host.reduce IntOp.andi x v reducesTo_S8x32_S_d0_1 h_S_) main_v7 main_c_1
  let main_v9 : IVec S_ 1 := andi main_v5 main_v8
  let main_c_2 : IVec S_ 32 := constantI S_ 32 80#32
  let main_v10 : IVec S8x32 32 := broadcastInDim S8x32 ![] bcast_S_S8x32 main_c_2
  let main_v11 : IVec S8x32 1 := cmpi .slt main_v2 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v9 main_v12
  main_v13
-- ==== Pre_in_range.lean ====
abbrev S8x20000x80 : Shape := ⟨3, ![8, 20000, 80]⟩
abbrev S8x20000x4 : Shape := ⟨3, ![8, 20000, 4]⟩
abbrev S1x20000x4 : Shape := ⟨3, ![1, 20000, 4]⟩
abbrev S8x32x5 : Shape := ⟨3, ![8, 32, 5]⟩
abbrev S8x8x5 : Shape := ⟨3, ![8, 8, 5]⟩
abbrev S8x32x1 : Shape := ⟨3, ![8, 32, 1]⟩
abbrev S8x32 : Shape := ⟨2, ![8, 32]⟩
abbrev S_ : Shape := ⟨0, ![]⟩

class Facts : Prop where
  slices_S8x32x5_S8x32x1_0_0_4 : S8x32x5.Slices ![0, 0, 4] S8x32x1
  shapeCasts_S8x32x1_S8x32 : S8x32x1.ShapeCasts S8x32
  bcast_S_S8x20000x80 : S_.BroadcastsInDim S8x20000x80 (![] : Fin 0 → Fin S8x20000x80.rank)
  reducesTo_S8x20000x80_S_d0_1_2 : S8x20000x80.ReducesTo [0, 1, 2] S_
  h_S_ : 0 < S_.numel
  bcast_S_S8x32 : S_.BroadcastsInDim S8x32 (![] : Fin 0 → Fin S8x32.rank)
  reducesTo_S8x32_S_d0_1 : S8x32.ReducesTo [0, 1] S_

variable [Facts]

def fn {F : FTy → Type} [FloatOps F] (main_arg0 : FVec F S8x20000x80 .f32) (main_arg1 : FVec F S8x20000x4 .f32) (main_arg2 : FVec F S1x20000x4 .f32) (main_arg3 : FVec F S8x32x5 .f32) (main_arg4 : FVec F S8x8x5 .f32) : IVec S_ 1 :=
  let main_v0 : FVec F S8x32x1 .f32 := (extractStridedSlice S8x32x1 ![0, 0, 4] · slices_S8x32x5_S8x32x1_0_0_4) main_arg3
  let main_v1 : FVec F S8x32 .f32 := shapeCast S8x32 main_v0 shapeCasts_S8x32x1_S8x32
  let main_v2 : IVec S8x32 32 := fptosi 32 main_v1
  let main_cst : FVec F S_ .f32 := constant S_ .f32 0x38D1B717#32
  let main_v3 : FVec F S8x20000x80 .f32 := broadcastInDim S8x20000x80 ![] bcast_S_S8x20000x80 main_cst
  let main_v4 : IVec S8x20000x80 1 := cmpf .oge main_arg0 main_v3
  let main_c : IVec S_ 1 := constantI S_ 1 1#1
  let main_v5 : IVec S_ 1 := (fun x v => Host.reduce IntOp.andi x v reducesTo_S8x20000x80_S_d0_1_2 h_S_) main_v4 main_c
  let main_c_0 : IVec S_ 32 := constantI S_ 32 0#32
  let main_v6 : IVec S8x32 32 := broadcastInDim S8x32 ![] bcast_S_S8x32 main_c_0
  let main_v7 : IVec S8x32 1 := cmpi .sge main_v2 main_v6
  let main_c_1 : IVec S_ 1 := constantI S_ 1 1#1
  let main_v8 : IVec S_ 1 := (fun x v => Host.reduce IntOp.andi x v reducesTo_S8x32_S_d0_1 h_S_) main_v7 main_c_1
  let main_v9 : IVec S_ 1 := andi main_v5 main_v8
  let main_c_2 : IVec S_ 32 := constantI S_ 32 80#32
  let main_v10 : IVec S8x32 32 := broadcastInDim S8x32 ![] bcast_S_S8x32 main_c_2
  let main_v11 : IVec S8x32 1 := cmpi .slt main_v2 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v9 main_v12
  main_v13
-- ==== Kernel.lean ====
abbrev S8x20000x80 : Shape := ⟨3, ![8, 20000, 80]⟩
abbrev S8x20000x4 : Shape := ⟨3, ![8, 20000, 4]⟩
abbrev S1x20000x4 : Shape := ⟨3, ![1, 20000, 4]⟩
abbrev S8x32x5 : Shape := ⟨3, ![8, 32, 5]⟩
abbrev S8x8x5 : Shape := ⟨3, ![8, 8, 5]⟩
abbrev S8x80x20000 : Shape := ⟨3, ![8, 80, 20000]⟩
abbrev S8x4x20000 : Shape := ⟨3, ![8, 4, 20000]⟩
abbrev S8x4x8x2500 : Shape := ⟨4, ![8, 4, 8, 2500]⟩
abbrev S1x4x20000 : Shape := ⟨3, ![1, 4, 20000]⟩
abbrev S1x4x8x2500 : Shape := ⟨4, ![1, 4, 8, 2500]⟩
abbrev S5x8x32 : Shape := ⟨3, ![5, 8, 32]⟩
abbrev S5x8x8 : Shape := ⟨3, ![5, 8, 8]⟩
abbrev S8x32x1 : Shape := ⟨3, ![8, 32, 1]⟩
abbrev S8x32 : Shape := ⟨2, ![8, 32]⟩
abbrev S8x1x32 : Shape := ⟨3, ![8, 1, 32]⟩
abbrev S8x32x4 : Shape := ⟨3, ![8, 32, 4]⟩
abbrev S1x2x128 : Shape := ⟨3, ![1, 2, 128]⟩
abbrev S1x2x1 : Shape := ⟨3, ![1, 2, 1]⟩
abbrev S2 : Shape := ⟨1, ![2]⟩
abbrev S1x80x20000 : Shape := ⟨3, ![1, 80, 20000]⟩
abbrev S1x1x32 : Shape := ⟨3, ![1, 1, 32]⟩
abbrev S1x32x4 : Shape := ⟨3, ![1, 32, 4]⟩
abbrev S1x1x8x2500 : Shape := ⟨4, ![1, 1, 8, 2500]⟩
abbrev S8x2500 : Shape := ⟨2, ![8, 2500]⟩
abbrev S5x32 : Shape := ⟨2, ![5, 32]⟩
abbrev S32x5 : Shape := ⟨2, ![32, 5]⟩
abbrev S32x1 : Shape := ⟨2, ![32, 1]⟩
abbrev S32 : Shape := ⟨1, ![32]⟩
abbrev S32x1x1 : Shape := ⟨3, ![32, 1, 1]⟩
abbrev S1x8x2500 : Shape := ⟨3, ![1, 8, 2500]⟩
abbrev S32x8x2500 : Shape := ⟨3, ![32, 8, 2500]⟩
abbrev S5x8 : Shape := ⟨2, ![5, 8]⟩
abbrev S8x5 : Shape := ⟨2, ![8, 5]⟩
abbrev S8x1 : Shape := ⟨2, ![8, 1]⟩
abbrev S8 : Shape := ⟨1, ![8]⟩
abbrev S8x1x1 : Shape := ⟨3, ![8, 1, 1]⟩
abbrev S8x8x2500 : Shape := ⟨3, ![8, 8, 2500]⟩
abbrev S1 : Shape := ⟨1, ![1]⟩
abbrev S1x1x1 : Shape := ⟨3, ![1, 1, 1]⟩
abbrev S80x20000 : Shape := ⟨2, ![80, 20000]⟩
abbrev S1x80 : Shape := ⟨2, ![1, 80]⟩
abbrev S1x20000 : Shape := ⟨2, ![1, 20000]⟩
abbrev S1x2500 : Shape := ⟨2, ![1, 2500]⟩
abbrev S2x128 : Shape := ⟨2, ![2, 128]⟩

abbrev nBuf : Space → Nat
  | .hbm => 20
  | .vmem => 8
  | .smem => 4
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S1x20000x4, .f32⟩
  | .hbm, ⟨3, _⟩ => ⟨S8x32x5, .f32⟩
  | .hbm, ⟨4, _⟩ => ⟨S8x8x5, .f32⟩
  | .hbm, ⟨5, _⟩ => ⟨S8x80x20000, .f32⟩
  | .hbm, ⟨6, _⟩ => ⟨S8x4x20000, .f32⟩
  | .hbm, ⟨7, _⟩ => ⟨S8x4x8x2500, .f32⟩
  | .hbm, ⟨8, _⟩ => ⟨S1x4x20000, .f32⟩
  | .hbm, ⟨9, _⟩ => ⟨S1x4x8x2500, .f32⟩
  | .hbm, ⟨10, _⟩ => ⟨S5x8x32, .f32⟩
  | .hbm, ⟨11, _⟩ => ⟨S5x8x8, .f32⟩
  | .hbm, ⟨12, _⟩ => ⟨S8x32x1, .f32⟩
  | .hbm, ⟨13, _⟩ => ⟨S8x32, .f32⟩
  | .hbm, ⟨14, _⟩ => ⟨S8x32, .i32⟩
  | .hbm, ⟨15, _⟩ => ⟨S8x1x32, .i32⟩
  | .hbm, ⟨16, _⟩ => ⟨S8x32x4, .f32⟩
  | .hbm, ⟨17, _⟩ => ⟨S1x2x128, .f32⟩
  | .hbm, ⟨18, _⟩ => ⟨S1x2x1, .f32⟩
  | .hbm, ⟨19, _⟩ => ⟨S2, .f32⟩
  | .local _ .vmem, ⟨0, _⟩ => ⟨S1x80x20000, .f32⟩
  | .local _ .vmem, ⟨1, _⟩ => ⟨S1x80x20000, .f32⟩
  | .local _ .vmem, ⟨2, _⟩ => ⟨S1x4x8x2500, .f32⟩
  | .local _ .vmem, ⟨3, _⟩ => ⟨S1x4x8x2500, .f32⟩
  | .local _ .vmem, ⟨4, _⟩ => ⟨S1x4x8x2500, .f32⟩
  | .local _ .vmem, ⟨5, _⟩ => ⟨S5x8x32, .f32⟩
  | .local _ .vmem, ⟨6, _⟩ => ⟨S5x8x8, .f32⟩
  | .local _ .vmem, ⟨7, _⟩ => ⟨S1x2x128, .f32⟩
  | .local _ .smem, ⟨0, _⟩ => ⟨S1x1x32, .i32⟩
  | .local _ .smem, ⟨1, _⟩ => ⟨S1x1x32, .i32⟩
  | .local _ .smem, ⟨2, _⟩ => ⟨S1x32x4, .f32⟩
  | .local _ .smem, ⟨3, _⟩ => ⟨S1x32x4, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg7_0 : Ref sig .tc := ⟨.vmem, 7, rfl⟩
abbrev cc0_stg5_0 : Ref sig .tc := ⟨.smem, 0, rfl⟩
abbrev cc0_stg5_1 : Ref sig .tc := ⟨.smem, 1, rfl⟩
abbrev cc0_stg6_0 : Ref sig .tc := ⟨.smem, 2, rfl⟩
abbrev cc0_stg6_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x80x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x2500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x8x2500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .smem S1x1x32 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .smem S1x32x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "base_scale" => some ((-((3 / 4) * (Real.log 2)) : ℝ) : EReal)
  | "inv_ln2" => some (((Real.log 2)⁻¹ : ℝ) : EReal)
  | _ => none
-- ==== ReferenceIdeal.lean ====
abbrev S8x20000x80 : Shape := ⟨3, ![8, 20000, 80]⟩
abbrev S8x20000x4 : Shape := ⟨3, ![8, 20000, 4]⟩
abbrev S1x20000x4 : Shape := ⟨3, ![1, 20000, 4]⟩
abbrev S8x32x5 : Shape := ⟨3, ![8, 32, 5]⟩
abbrev S8x8x5 : Shape := ⟨3, ![8, 8, 5]⟩
abbrev S20000x4 : Shape := ⟨2, ![20000, 4]⟩
abbrev S20000x1 : Shape := ⟨2, ![20000, 1]⟩
abbrev S20000 : Shape := ⟨1, ![20000]⟩
abbrev S_ : Shape := ⟨0, ![]⟩
abbrev S8x8x4 : Shape := ⟨3, ![8, 8, 4]⟩
abbrev S8x8x1 : Shape := ⟨3, ![8, 8, 1]⟩
abbrev S8x8 : Shape := ⟨2, ![8, 8]⟩
abbrev S8x1x8 : Shape := ⟨3, ![8, 1, 8]⟩
abbrev S1x20000x1 : Shape := ⟨3, ![1, 20000, 1]⟩
abbrev S8x20000x8 : Shape := ⟨3, ![8, 20000, 8]⟩
abbrev S8x20000 : Shape := ⟨2, ![8, 20000]⟩
abbrev S8x32x4 : Shape := ⟨3, ![8, 32, 4]⟩
abbrev S8x32x1 : Shape := ⟨3, ![8, 32, 1]⟩
abbrev S8x32 : Shape := ⟨2, ![8, 32]⟩
abbrev S8x1x32 : Shape := ⟨3, ![8, 1, 32]⟩
abbrev S8x20000x32 : Shape := ⟨3, ![8, 20000, 32]⟩
abbrev S8x20000x1 : Shape := ⟨3, ![8, 20000, 1]⟩
abbrev S8 : Shape := ⟨1, ![8]⟩
abbrev S8x20000x5 : Shape := ⟨3, ![8, 20000, 5]⟩
abbrev S1x80 : Shape := ⟨2, ![1, 80]⟩
abbrev S1x1x80 : Shape := ⟨3, ![1, 1, 80]⟩
abbrev S20000x80 : Shape := ⟨2, ![20000, 80]⟩
abbrev S1x20000 : Shape := ⟨2, ![1, 20000]⟩
abbrev S1 : Shape := ⟨1, ![1]⟩
abbrev S2 : Shape := ⟨1, ![2]⟩

abbrev nBuf : Space → Nat
  | .hbm => 412
  | .vmem => 0
  | .smem => 0
  | _ => 0

abbrev hbmTy0_0 (i : Nat) : BufTy := match i % 128 with
  | 0 => ⟨S8x20000x80, .f32⟩
  | 1 => ⟨S8x20000x4, .f32⟩
  | 2 => ⟨S1x20000x4, .f32⟩
  | 3 => ⟨S8x32x5, .f32⟩
  | 4 => ⟨S8x8x5, .f32⟩
  | 5 => ⟨S20000x4, .f32⟩
  | 6 => ⟨S20000x1, .f32⟩
  | 7 => ⟨S20000, .f32⟩
  | 8 => ⟨S20000x1, .f32⟩
  | 9 => ⟨S20000, .f32⟩
  | 10 => ⟨S20000, .f32⟩
  | 11 => ⟨S20000x1, .f32⟩
  | 12 => ⟨S20000, .f32⟩
  | 13 => ⟨S20000x1, .f32⟩
  | 14 => ⟨S20000, .f32⟩
  | 15 => ⟨S20000, .f32⟩
  | 16 => ⟨S20000x1, .f32⟩
  | 17 => ⟨S20000, .f32⟩
  | 18 => ⟨S_, .f32⟩
  | 19 => ⟨S20000, .f32⟩
  | 20 => ⟨S20000, .f32⟩
  | 21 => ⟨S20000, .f32⟩
  | 22 => ⟨S20000x1, .f32⟩
  | 23 => ⟨S20000, .f32⟩
  | 24 => ⟨S_, .f32⟩
  | 25 => ⟨S20000, .f32⟩
  | 26 => ⟨S20000, .f32⟩
  | 27 => ⟨S20000, .f32⟩
  | 28 => ⟨S_, .f32⟩
  | 29 => ⟨S_, .f32⟩
  | 30 => ⟨S_, .f32⟩
  | 31 => ⟨S8x20000x80, .f32⟩
  | 32 => ⟨S8x20000x80, .f32⟩
  | 33 => ⟨S_, .f32⟩
  | 34 => ⟨S8x20000x80, .f32⟩
  | 35 => ⟨S8x20000x80, .f32⟩
  | 36 => ⟨S8x8x4, .f32⟩
  | 37 => ⟨S8x8x1, .f32⟩
  | 38 => ⟨S8x8, .f32⟩
  | 39 => ⟨S8x8x1, .f32⟩
  | 40 => ⟨S8x8, .f32⟩
  | 41 => ⟨S8x8, .f32⟩
  | 42 => ⟨S8x8x1, .f32⟩
  | 43 => ⟨S8x8, .f32⟩
  | 44 => ⟨S8x8x1, .f32⟩
  | 45 => ⟨S8x8, .f32⟩
  | 46 => ⟨S8x8, .f32⟩
  | 47 => ⟨S8x8, .f32⟩
  | 48 => ⟨S20000x1, .f32⟩
  | 49 => ⟨S20000, .f32⟩
  | 50 => ⟨S20000x1, .f32⟩
  | 51 => ⟨S8x8x1, .f32⟩
  | 52 => ⟨S8x8, .f32⟩
  | 53 => ⟨S8x1x8, .f32⟩
  | 54 => ⟨S1x20000x1, .f32⟩
  | 55 => ⟨S8x20000x8, .f32⟩
  | 56 => ⟨S8x20000x8, .f32⟩
  | 57 => ⟨S8x20000x8, .f32⟩
  | 58 => ⟨S20000x1, .f32⟩
  | 59 => ⟨S20000, .f32⟩
  | 60 => ⟨S20000x1, .f32⟩
  | 61 => ⟨S8x8x1, .f32⟩
  | 62 => ⟨S8x8, .f32⟩
  | 63 => ⟨S8x1x8, .f32⟩
  | 64 => ⟨S1x20000x1, .f32⟩
  | 65 => ⟨S8x20000x8, .f32⟩
  | 66 => ⟨S8x20000x8, .f32⟩
  | 67 => ⟨S8x20000x8, .f32⟩
  | 68 => ⟨S8x20000x8, .f32⟩
  | 69 => ⟨S20000x1, .f32⟩
  | 70 => ⟨S20000, .f32⟩
  | 71 => ⟨S20000x1, .f32⟩
  | 72 => ⟨S8x8x1, .f32⟩
  | 73 => ⟨S8x8, .f32⟩
  | 74 => ⟨S8x1x8, .f32⟩
  | 75 => ⟨S1x20000x1, .f32⟩
  | 76 => ⟨S8x20000x8, .f32⟩
  | 77 => ⟨S8x20000x8, .f32⟩
  | 78 => ⟨S8x20000x8, .f32⟩
  | 79 => ⟨S20000x1, .f32⟩
  | 80 => ⟨S20000, .f32⟩
  | 81 => ⟨S20000x1, .f32⟩
  | 82 => ⟨S8x8x1, .f32⟩
  | 83 => ⟨S8x8, .f32⟩
  | 84 => ⟨S8x1x8, .f32⟩
  | 85 => ⟨S1x20000x1, .f32⟩
  | 86 => ⟨S8x20000x8, .f32⟩
  | 87 => ⟨S8x20000x8, .f32⟩
  | 88 => ⟨S8x20000x8, .f32⟩
  | 89 => ⟨S8x20000x8, .f32⟩
  | 90 => ⟨S_, .f32⟩
  | 91 => ⟨S8x20000x8, .f32⟩
  | 92 => ⟨S8x20000x8, .f32⟩
  | 93 => ⟨S_, .f32⟩
  | 94 => ⟨S8x20000x8, .f32⟩
  | 95 => ⟨S8x20000x8, .f32⟩
  | 96 => ⟨S20000x1, .f32⟩
  | 97 => ⟨S20000, .f32⟩
  | 98 => ⟨S20000x1, .f32⟩
  | 99 => ⟨S20000, .f32⟩
  | 100 => ⟨S20000, .f32⟩
  | 101 => ⟨S20000x1, .f32⟩
  | 102 => ⟨S20000, .f32⟩
  | 103 => ⟨S20000x1, .f32⟩
  | 104 => ⟨S20000, .f32⟩
  | 105 => ⟨S20000, .f32⟩
  | 106 => ⟨S20000, .f32⟩
  | 107 => ⟨S20000x1, .f32⟩
  | 108 => ⟨S8x1x8, .f32⟩
  | 109 => ⟨S1x20000x1, .f32⟩
  | 110 => ⟨S8x20000x8, .f32⟩
  | 111 => ⟨S8x20000x8, .f32⟩
  | 112 => ⟨S8x20000x8, .f32⟩
  | 113 => ⟨S8x20000x8, .f32⟩
  | 114 => ⟨S8x20000x8, .f32⟩
  | 115 => ⟨S_, .f32⟩
  | 116 => ⟨S8x20000x8, .f32⟩
  | 117 => ⟨S8x20000x8, .f32⟩
  | 118 => ⟨S8x20000x8, .f32⟩
  | 119 => ⟨S8x20000x8, .f32⟩
  | 120 => ⟨S_, .f32⟩
  | 121 => ⟨S8x20000, .f32⟩
  | 122 => ⟨S_, .f32⟩
  | 123 => ⟨S8x20000, .f32⟩
  | 124 => ⟨S8x20000, .i1⟩
  | 125 => ⟨S8x32x4, .f32⟩
  | 126 => ⟨S8x32x1, .f32⟩
  | 127 => ⟨S8x32, .f32⟩
  | _ => ⟨S8x20000x80, .f32⟩

abbrev hbmTy0_1 (i : Nat) : BufTy := match i % 128 with
  | 0 => ⟨S8x32x1, .f32⟩
  | 1 => ⟨S8x32, .f32⟩
  | 2 => ⟨S8x32, .f32⟩
  | 3 => ⟨S8x32x1, .f32⟩
  | 4 => ⟨S8x32, .f32⟩
  | 5 => ⟨S8x32x1, .f32⟩
  | 6 => ⟨S8x32, .f32⟩
  | 7 => ⟨S8x32, .f32⟩
  | 8 => ⟨S8x32, .f32⟩
  | 9 => ⟨S20000x1, .f32⟩
  | 10 => ⟨S20000, .f32⟩
  | 11 => ⟨S20000x1, .f32⟩
  | 12 => ⟨S8x32x1, .f32⟩
  | 13 => ⟨S8x32, .f32⟩
  | 14 => ⟨S8x1x32, .f32⟩
  | 15 => ⟨S1x20000x1, .f32⟩
  | 16 => ⟨S8x20000x32, .f32⟩
  | 17 => ⟨S8x20000x32, .f32⟩
  | 18 => ⟨S8x20000x32, .f32⟩
  | 19 => ⟨S20000x1, .f32⟩
  | 20 => ⟨S20000, .f32⟩
  | 21 => ⟨S20000x1, .f32⟩
  | 22 => ⟨S8x32x1, .f32⟩
  | 23 => ⟨S8x32, .f32⟩
  | 24 => ⟨S8x1x32, .f32⟩
  | 25 => ⟨S1x20000x1, .f32⟩
  | 26 => ⟨S8x20000x32, .f32⟩
  | 27 => ⟨S8x20000x32, .f32⟩
  | 28 => ⟨S8x20000x32, .f32⟩
  | 29 => ⟨S8x20000x32, .f32⟩
  | 30 => ⟨S20000x1, .f32⟩
  | 31 => ⟨S20000, .f32⟩
  | 32 => ⟨S20000x1, .f32⟩
  | 33 => ⟨S8x32x1, .f32⟩
  | 34 => ⟨S8x32, .f32⟩
  | 35 => ⟨S8x1x32, .f32⟩
  | 36 => ⟨S1x20000x1, .f32⟩
  | 37 => ⟨S8x20000x32, .f32⟩
  | 38 => ⟨S8x20000x32, .f32⟩
  | 39 => ⟨S8x20000x32, .f32⟩
  | 40 => ⟨S20000x1, .f32⟩
  | 41 => ⟨S20000, .f32⟩
  | 42 => ⟨S20000x1, .f32⟩
  | 43 => ⟨S8x32x1, .f32⟩
  | 44 => ⟨S8x32, .f32⟩
  | 45 => ⟨S8x1x32, .f32⟩
  | 46 => ⟨S1x20000x1, .f32⟩
  | 47 => ⟨S8x20000x32, .f32⟩
  | 48 => ⟨S8x20000x32, .f32⟩
  | 49 => ⟨S8x20000x32, .f32⟩
  | 50 => ⟨S8x20000x32, .f32⟩
  | 51 => ⟨S_, .f32⟩
  | 52 => ⟨S8x20000x32, .f32⟩
  | 53 => ⟨S8x20000x32, .f32⟩
  | 54 => ⟨S_, .f32⟩
  | 55 => ⟨S8x20000x32, .f32⟩
  | 56 => ⟨S8x20000x32, .f32⟩
  | 57 => ⟨S20000x1, .f32⟩
  | 58 => ⟨S20000, .f32⟩
  | 59 => ⟨S20000x1, .f32⟩
  | 60 => ⟨S20000, .f32⟩
  | 61 => ⟨S20000, .f32⟩
  | 62 => ⟨S20000x1, .f32⟩
  | 63 => ⟨S20000, .f32⟩
  | 64 => ⟨S20000x1, .f32⟩
  | 65 => ⟨S20000, .f32⟩
  | 66 => ⟨S20000, .f32⟩
  | 67 => ⟨S20000, .f32⟩
  | 68 => ⟨S20000x1, .f32⟩
  | 69 => ⟨S8x1x32, .f32⟩
  | 70 => ⟨S1x20000x1, .f32⟩
  | 71 => ⟨S8x20000x32, .f32⟩
  | 72 => ⟨S8x20000x32, .f32⟩
  | 73 => ⟨S8x20000x32, .f32⟩
  | 74 => ⟨S8x20000x32, .f32⟩
  | 75 => ⟨S8x20000x32, .f32⟩
  | 76 => ⟨S_, .f32⟩
  | 77 => ⟨S8x20000x32, .f32⟩
  | 78 => ⟨S8x20000x32, .f32⟩
  | 79 => ⟨S8x20000x32, .f32⟩
  | 80 => ⟨S8x20000x32, .f32⟩
  | 81 => ⟨S_, .f32⟩
  | 82 => ⟨S8x20000, .f32⟩
  | 83 => ⟨S8x20000x1, .f32⟩
  | 84 => ⟨S8x20000x1, .i32⟩
  | 85 => ⟨S8x20000, .i32⟩
  | 86 => ⟨S_, .f32⟩
  | 87 => ⟨S8x20000, .f32⟩
  | 88 => ⟨S8x20000, .i1⟩
  | 89 => ⟨S8x20000, .i1⟩
  | 90 => ⟨S_, .f32⟩
  | 91 => ⟨S8x20000, .f32⟩
  | 92 => ⟨S8x20000, .i1⟩
  | 93 => ⟨S8x20000, .i1⟩
  | 94 => ⟨S8x20000, .i32⟩
  | 95 => ⟨S_, .i32⟩
  | 96 => ⟨S8, .i32⟩
  | 97 => ⟨S8, .f32⟩
  | 98 => ⟨S_, .i32⟩
  | 99 => ⟨S8x20000, .i32⟩
  | 100 => ⟨S8x20000, .i1⟩
  | 101 => ⟨S_, .i32⟩
  | 102 => ⟨S8x20000, .i32⟩
  | 103 => ⟨S8x20000, .i32⟩
  | 104 => ⟨S8x20000, .i32⟩
  | 105 => ⟨S8x20000x1, .i32⟩
  | 106 => ⟨S8x20000x5, .f32⟩
  | 107 => ⟨S8x20000x1, .f32⟩
  | 108 => ⟨S8x20000, .f32⟩
  | 109 => ⟨S8x20000, .i32⟩
  | 110 => ⟨S8x20000x1, .i32⟩
  | 111 => ⟨S1x80, .i32⟩
  | 112 => ⟨S1x1x80, .i32⟩
  | 113 => ⟨S8x20000x80, .i32⟩
  | 114 => ⟨S8x20000x80, .i32⟩
  | 115 => ⟨S8x20000x80, .i1⟩
  | 116 => ⟨S8x20000x80, .f32⟩
  | 117 => ⟨S8x20000x1, .i1⟩
  | 118 => ⟨S8x20000x1, .i1⟩
  | 119 => ⟨S_, .f32⟩
  | 120 => ⟨S_, .f32⟩
  | 121 => ⟨S20000x1, .f32⟩
  | 122 => ⟨S20000x1, .f32⟩
  | 123 => ⟨S8x20000x1, .f32⟩
  | 124 => ⟨S8x20000x1, .f32⟩
  | 125 => ⟨S8x20000x1, .f32⟩
  | 126 => ⟨S8x20000x1, .f32⟩
  | 127 => ⟨S8x20000x80, .i1⟩
  | _ => ⟨S8x20000x80, .f32⟩

abbrev hbmTy0_2 (i : Nat) : BufTy := match i % 128 with
  | 0 => ⟨S8x20000x80, .f32⟩
  | 1 => ⟨S8x20000x80, .f32⟩
  | 2 => ⟨S_, .f32⟩
  | 3 => ⟨S8x20000x80, .f32⟩
  | 4 => ⟨S8x20000x80, .i1⟩
  | 5 => ⟨S_, .f32⟩
  | 6 => ⟨S_, .f32⟩
  | 7 => ⟨S20000x80, .f32⟩
  | 8 => ⟨S20000x80, .f32⟩
  | 9 => ⟨S8x20000x80, .f32⟩
  | 10 => ⟨S8x20000x80, .f32⟩
  | 11 => ⟨S8x20000x80, .f32⟩
  | 12 => ⟨S_, .f32⟩
  | 13 => ⟨S8x20000x80, .f32⟩
  | 14 => ⟨S8x20000x80, .i1⟩
  | 15 => ⟨S_, .f32⟩
  | 16 => ⟨S8x20000x80, .f32⟩
  | 17 => ⟨S8x20000x80, .f32⟩
  | 18 => ⟨S8x20000x80, .f32⟩
  | 19 => ⟨S_, .f32⟩
  | 20 => ⟨S8x20000x80, .f32⟩
  | 21 => ⟨S8x20000x80, .f32⟩
  | 22 => ⟨S8x20000x80, .f32⟩
  | 23 => ⟨S8x20000x80, .f32⟩
  | 24 => ⟨S8x20000x80, .f32⟩
  | 25 => ⟨S8x20000x80, .f32⟩
  | 26 => ⟨S_, .f32⟩
  | 27 => ⟨S8x20000x80, .f32⟩
  | 28 => ⟨S8x20000x80, .f32⟩
  | 29 => ⟨S_, .f32⟩
  | 30 => ⟨S8x20000x80, .f32⟩
  | 31 => ⟨S8x20000x80, .f32⟩
  | 32 => ⟨S8x20000x80, .f32⟩
  | 33 => ⟨S8x20000x80, .f32⟩
  | 34 => ⟨S8x20000x80, .f32⟩
  | 35 => ⟨S8x20000x80, .f32⟩
  | 36 => ⟨S_, .f32⟩
  | 37 => ⟨S8x20000x80, .f32⟩
  | 38 => ⟨S8x20000x80, .i1⟩
  | 39 => ⟨S8x20000x80, .f32⟩
  | 40 => ⟨S_, .f32⟩
  | 41 => ⟨S_, .f32⟩
  | 42 => ⟨S20000x80, .f32⟩
  | 43 => ⟨S8x20000x80, .f32⟩
  | 44 => ⟨S8x20000x80, .f32⟩
  | 45 => ⟨S_, .f32⟩
  | 46 => ⟨S8, .f32⟩
  | 47 => ⟨S_, .f32⟩
  | 48 => ⟨S8, .f32⟩
  | 49 => ⟨S8, .f32⟩
  | 50 => ⟨S8, .f32⟩
  | 51 => ⟨S8x20000x1, .f32⟩
  | 52 => ⟨S8x20000, .f32⟩
  | 53 => ⟨S8x20000x1, .f32⟩
  | 54 => ⟨S8x20000, .f32⟩
  | 55 => ⟨S8x20000, .f32⟩
  | 56 => ⟨S8x20000x1, .f32⟩
  | 57 => ⟨S8x20000, .f32⟩
  | 58 => ⟨S8x20000x1, .f32⟩
  | 59 => ⟨S8x20000, .f32⟩
  | 60 => ⟨S8x20000, .f32⟩
  | 61 => ⟨S8x20000x1, .f32⟩
  | 62 => ⟨S8x20000, .f32⟩
  | 63 => ⟨S_, .f32⟩
  | 64 => ⟨S8x20000, .f32⟩
  | 65 => ⟨S8x20000, .f32⟩
  | 66 => ⟨S8x20000, .f32⟩
  | 67 => ⟨S8x20000x1, .f32⟩
  | 68 => ⟨S8x20000, .f32⟩
  | 69 => ⟨S_, .f32⟩
  | 70 => ⟨S8x20000, .f32⟩
  | 71 => ⟨S8x20000, .f32⟩
  | 72 => ⟨S8x20000, .f32⟩
  | 73 => ⟨S_, .f32⟩
  | 74 => ⟨S8x20000, .f32⟩
  | 75 => ⟨S8x20000, .f32⟩
  | 76 => ⟨S_, .f32⟩
  | 77 => ⟨S8x20000, .f32⟩
  | 78 => ⟨S8x20000, .f32⟩
  | 79 => ⟨S1x20000, .f32⟩
  | 80 => ⟨S8x20000, .f32⟩
  | 81 => ⟨S8x20000, .f32⟩
  | 82 => ⟨S1x20000, .f32⟩
  | 83 => ⟨S8x20000, .f32⟩
  | 84 => ⟨S8x20000, .f32⟩
  | 85 => ⟨S_, .f32⟩
  | 86 => ⟨S8x20000, .f32⟩
  | 87 => ⟨S8x20000, .f32⟩
  | 88 => ⟨S1x20000, .f32⟩
  | 89 => ⟨S8x20000, .f32⟩
  | 90 => ⟨S8x20000, .f32⟩
  | 91 => ⟨S1x20000, .f32⟩
  | 92 => ⟨S8x20000, .f32⟩
  | 93 => ⟨S8x20000, .f32⟩
  | 94 => ⟨S_, .f32⟩
  | 95 => ⟨S8x20000, .f32⟩
  | 96 => ⟨S8x20000, .f32⟩
  | 97 => ⟨S1x20000, .f32⟩
  | 98 => ⟨S8x20000, .f32⟩
  | 99 => ⟨S8x20000, .f32⟩
  | 100 => ⟨S8x20000, .f32⟩
  | 101 => ⟨S_, .f32⟩
  | 102 => ⟨S8x20000, .f32⟩
  | 103 => ⟨S8x20000, .f32⟩
  | 104 => ⟨S1x20000, .f32⟩
  | 105 => ⟨S8x20000, .f32⟩
  | 106 => ⟨S8x20000, .f32⟩
  | 107 => ⟨S8x20000, .f32⟩
  | 108 => ⟨S_, .f32⟩
  | 109 => ⟨S8x20000, .f32⟩
  | 110 => ⟨S8x20000, .f32⟩
  | 111 => ⟨S8x20000x1, .f32⟩
  | 112 => ⟨S8x20000x1, .f32⟩
  | 113 => ⟨S8x20000x1, .f32⟩
  | 114 => ⟨S8x20000x1, .f32⟩
  | 115 => ⟨S8x20000x4, .f32⟩
  | 116 => ⟨S8x20000x4, .f32⟩
  | 117 => ⟨S8x20000x4, .f32⟩
  | 118 => ⟨S_, .f32⟩
  | 119 => ⟨S8x20000x4, .f32⟩
  | 120 => ⟨S8x20000x4, .i1⟩
  | 121 => ⟨S8x20000x4, .f32⟩
  | 122 => ⟨S_, .f32⟩
  | 123 => ⟨S8x20000x4, .f32⟩
  | 124 => ⟨S8x20000x4, .f32⟩
  | 125 => ⟨S_, .f32⟩
  | 126 => ⟨S8x20000x4, .f32⟩
  | 127 => ⟨S8x20000x4, .f32⟩
  | _ => ⟨S8x20000x80, .f32⟩

abbrev hbmTy0_3 (i : Nat) : BufTy := match i % 128 with
  | 0 => ⟨S8x20000x4, .f32⟩
  | 1 => ⟨S8x20000x1, .i1⟩
  | 2 => ⟨S_, .f32⟩
  | 3 => ⟨S_, .f32⟩
  | 4 => ⟨S8x20000x4, .i1⟩
  | 5 => ⟨S20000x4, .f32⟩
  | 6 => ⟨S8x20000x4, .f32⟩
  | 7 => ⟨S8x20000x4, .f32⟩
  | 8 => ⟨S_, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S2, .f32⟩
  | _ => ⟨S8x20000x80, .f32⟩

abbrev hbmTy (i : Nat) : BufTy := match i / 128 with
  | 0 => hbmTy0_0 i
  | 1 => hbmTy0_1 i
  | 2 => hbmTy0_2 i
  | 3 => hbmTy0_3 i
  | _ => ⟨S8x20000x80, .f32⟩

abbrev bufTy : (tb : Table) → Fin (tcTables nBuf tb) → BufTy
  | .hbm, ⟨i, _⟩ => hbmTy i
  | _, _ => ⟨S8x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_3 : Ref sig .tc := ⟨.hbm, 90, rfl⟩
abbrev main_v76 : Ref sig .tc := ⟨.hbm, 91, rfl⟩
abbrev main_v77 : Ref sig .tc := ⟨.hbm, 92, rfl⟩
abbrev main_cst_4 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_5 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_6 : Ref sig .tc := ⟨.hbm, 120, rfl⟩
abbrev main_v103 : Ref sig .tc := ⟨.hbm, 121, rfl⟩
abbrev main_cst_7 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_cst_8 : Ref sig .tc := ⟨.hbm, 179, rfl⟩
abbrev main_v160 : Ref sig .tc := ⟨.hbm, 180, rfl⟩
abbrev main_v161 : Ref sig .tc := ⟨.hbm, 181, rfl⟩
abbrev main_cst_9 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_cst_10 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_cst_11 : Ref sig .tc := ⟨.hbm, 209, rfl⟩
abbrev main_v187 : Ref sig .tc := ⟨.hbm, 210, rfl⟩
abbrev main_values : Ref sig .tc := ⟨.hbm, 211, rfl⟩
abbrev main_indices : Ref sig .tc := ⟨.hbm, 212, rfl⟩
abbrev main_v188 : Ref sig .tc := ⟨.hbm, 213, rfl⟩
abbrev main_cst_12 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_cst_13 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_c : Ref sig .tc := ⟨.hbm, 223, rfl⟩
abbrev main_v196 : Ref sig .tc := ⟨.hbm, 224, rfl⟩
abbrev main_v197 : Ref sig .tc := ⟨.hbm, 225, rfl⟩
abbrev main_c_14 : Ref sig .tc := ⟨.hbm, 226, rfl⟩
abbrev main_v198 : Ref sig .tc := ⟨.hbm, 227, rfl⟩
abbrev main_v199 : Ref sig .tc := ⟨.hbm, 228, rfl⟩
abbrev main_c_15 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_call1_v0 : Ref sig .tc := ⟨.hbm, 238, rfl⟩
abbrev main_call1_v1 : Ref sig .tc := ⟨.hbm, 239, rfl⟩
abbrev main_call1_v2 : Ref sig .tc := ⟨.hbm, 240, rfl⟩
abbrev main_call1_v3 : Ref sig .tc := ⟨.hbm, 241, rfl⟩
abbrev main_call1_v4 : Ref sig .tc := ⟨.hbm, 242, rfl⟩
abbrev main_call1_v5 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_cst_16 : Ref sig .tc := ⟨.hbm, 247, rfl⟩
abbrev main_cst_17 : Ref sig .tc := ⟨.hbm, 248, rfl⟩
abbrev main_call2_v0 : Ref sig .tc := ⟨.hbm, 249, rfl⟩
abbrev main_call2_v1 : Ref sig .tc := ⟨.hbm, 250, rfl⟩
abbrev main_call2_v2 : Ref sig .tc := ⟨.hbm, 251, rfl⟩
abbrev main_call2_v3 : Ref sig .tc := ⟨.hbm, 252, rfl⟩
abbrev main_v211 : Ref sig .tc := ⟨.hbm, 253, rfl⟩
abbrev main_call3_v0 : Ref sig .tc := ⟨.hbm, 254, rfl⟩
abbrev main_call3_v1 : Ref sig .tc := ⟨.hbm, 255, rfl⟩
abbrev main_call3_v2 : Ref sig .tc := ⟨.hbm, 256, rfl⟩
abbrev main_v212 : Ref sig .tc := ⟨.hbm, 257, rfl⟩
abbrev main_cst_18 : Ref sig .tc := ⟨.hbm, 258, rfl⟩
abbrev main_v213 : Ref sig .tc := ⟨.hbm, 259, rfl⟩
abbrev main_v214 : Ref sig .tc := ⟨.hbm, 260, rfl⟩
abbrev main_cst_19 : Ref sig .tc := ⟨.hbm, 261, rfl⟩
abbrev main_cst_20 : Ref sig .tc := ⟨.hbm, 262, rfl⟩
abbrev main_call4_v0 : Ref sig .tc := ⟨.hbm, 263, rfl⟩
abbrev main_call4_v1 : Ref sig .tc := ⟨.hbm, 264, rfl⟩
abbrev main_call4_v2 : Ref sig .tc := ⟨.hbm, 265, rfl⟩
abbrev main_call4_v3 : Ref sig .tc := ⟨.hbm, 266, rfl⟩
abbrev main_v215 : Ref sig .tc := ⟨.hbm, 267, rfl⟩
abbrev main_cst_21 : Ref sig .tc := ⟨.hbm, 268, rfl⟩
abbrev main_v216 : Ref sig .tc := ⟨.hbm, 269, rfl⟩
abbrev main_v217 : Ref sig .tc := ⟨.hbm, 270, rfl⟩
abbrev main_cst_22 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_cst_23 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_cst_24 : Ref sig .tc := ⟨.hbm, 282, rfl⟩
abbrev main_v227 : Ref sig .tc := ⟨.hbm, 283, rfl⟩
abbrev main_v228 : Ref sig .tc := ⟨.hbm, 284, rfl⟩
abbrev main_cst_25 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_cst_26 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_cst_27 : Ref sig .tc := ⟨.hbm, 296, rfl⟩
abbrev main_call6_v0 : Ref sig .tc := ⟨.hbm, 297, rfl⟩
abbrev main_call6_v1 : Ref sig .tc := ⟨.hbm, 298, rfl⟩
abbrev main_call6_v2 : Ref sig .tc := ⟨.hbm, 299, rfl⟩
abbrev main_v238 : Ref sig .tc := ⟨.hbm, 300, rfl⟩
abbrev main_cst_28 : Ref sig .tc := ⟨.hbm, 301, rfl⟩
abbrev main_v239 : Ref sig .tc := ⟨.hbm, 302, rfl⟩
abbrev main_cst_29 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_cst_30 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_31 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_cst_32 : Ref sig .tc := ⟨.hbm, 329, rfl⟩
abbrev main_v263 : Ref sig .tc := ⟨.hbm, 330, rfl⟩
abbrev main_v264 : Ref sig .tc := ⟨.hbm, 331, rfl⟩
abbrev main_cst_33 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_cst_34 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_cst_35 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_cst_36 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_cst_37 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_cst_38 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_cst_39 : Ref sig .tc := ⟨.hbm, 378, rfl⟩
abbrev main_v305 : Ref sig .tc := ⟨.hbm, 379, rfl⟩
abbrev main_v306 : Ref sig .tc := ⟨.hbm, 380, rfl⟩
abbrev main_cst_40 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_cst_41 : Ref sig .tc := ⟨.hbm, 386, rfl⟩
abbrev main_call8_v0 : Ref sig .tc := ⟨.hbm, 387, rfl⟩
abbrev main_call8_v1 : Ref sig .tc := ⟨.hbm, 388, rfl⟩
abbrev main_call8_v2 : Ref sig .tc := ⟨.hbm, 389, rfl⟩
abbrev main_call8_v3 : Ref sig .tc := ⟨.hbm, 390, rfl⟩
abbrev main_v311 : Ref sig .tc := ⟨.hbm, 391, rfl⟩
abbrev main_cst_42 : Ref sig .tc := ⟨.hbm, 392, rfl⟩
abbrev main_v312 : Ref sig .tc := ⟨.hbm, 393, rfl⟩
abbrev main_cst_43 : Ref sig .tc := ⟨.hbm, 394, rfl⟩
abbrev main_v313 : Ref sig .tc := ⟨.hbm, 395, rfl⟩
abbrev main_v314 : Ref sig .tc := ⟨.hbm, 396, rfl⟩
abbrev main_cst_44 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_cst_45 : Ref sig .tc := ⟨.hbm, 401, rfl⟩
abbrev main_v318 : Ref sig .tc := ⟨.hbm, 402, rfl⟩
abbrev main_cst_46 : Ref sig .tc := ⟨.hbm, 403, rfl⟩
abbrev main_v319 : Ref sig .tc := ⟨.hbm, 404, rfl⟩
abbrev main_cst_47 : Ref sig .tc := ⟨.hbm, 405, rfl⟩
abbrev main_v320 : Ref sig .tc := ⟨.hbm, 406, rfl⟩
abbrev main_cst_48 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩

abbrev nD : Nat := 1
abbrev τ : Topo := Topo.v7x

variable {F : FTy → Type} [FloatOps F]
-- ==== Proof.Loss.lean ====
/-
  The mathematics both programs compute, over the extended reals, one anchor at a time: the overlap of two boxes, the
  best overlap of an anchor with a list of boxes and the first box that reaches it, whether the anchor counts as
  positive or negative, and the loss of its four box offsets.
-/
module

public import Idealize.ShloMosaic.Lib.Pointwise

@[expose] public section

noncomputable section

open Idealize.ShloMosaic

namespace Cert.FocalLoss

/-- The overlap (intersection over union) of two boxes given by two opposite corners. -/
def iou (a b : Fin 4 → EReal) : EReal :=
  Ideal.div
    (max (min (a 2) (b 2) - max (a 0) (b 0)) 0 * max (min (a 3) (b 3) - max (a 1) (b 1)) 0)
    (max ((a 2 - a 0) * (a 3 - a 1) + (b 2 - b 0) * (b 3 - b 1)
      - max (min (a 2) (b 2) - max (a 0) (b 0)) 0 * max (min (a 3) (b 3) - max (a 1) (b 1)) 0)
      (Ideal.ofBits .f32 0x322BCC77#32))

/-- The greatest of finitely many values. -/
def best {n : ℕ} (f : Fin n → EReal) : EReal :=
  Finset.univ.fold max (Ideal.ofBits .f32 0xFF800000#32) f

/-- The pattern the maxima start from is the least extended real. -/
theorem neg_inf : Ideal.ofBits .f32 0xFF800000#32 = ⊥ := by simp [Ideal.ofBits, Ideal.ieee]

/-- The best value as a supremum; it bounds every value. -/
theorem best_eq_sup {n : ℕ} (f : Fin n → EReal) : best f = Finset.univ.sup f := by
  unfold best; rw [neg_inf]; rfl

theorem le_best {n : ℕ} (f : Fin n → EReal) (k : Fin n) : f k ≤ best f := by
  rw [best_eq_sup]; exact Finset.le_sup (Finset.mem_univ k)

/-- Some entry reaches the greatest value. -/
theorem exists_best {n : ℕ} [NeZero n] (f : Fin n → EReal) : ∃ k, f k = best f := by
  obtain ⟨k, -, hk⟩ := Finset.exists_max_image (Finset.univ : Finset (Fin n)) f ⟨0, Finset.mem_univ _⟩
  refine ⟨k, le_antisymm (le_best f k) ?_⟩
  rw [best_eq_sup]; exact Finset.sup_le fun j hj => hk j hj

/-- The first entry that reaches the greatest value. -/
def firstBest {n : ℕ} [NeZero n] (f : Fin n → EReal) : Fin n :=
  (Finset.univ.filter fun k => f k = best f).min' <| by
    obtain ⟨k, hk⟩ := exists_best f
    exact ⟨k, Finset.mem_filter.mpr ⟨Finset.mem_univ _, hk⟩⟩

/-- The first index of the best value holds it, and no earlier one does. -/
theorem firstBest_spec {n : ℕ} [NeZero n] (f : Fin n → EReal) : f (firstBest f) = best f :=
  (Finset.mem_filter.mp (Finset.min'_mem (Finset.univ.filter fun k => f k = best f) _)).2

theorem firstBest_le {n : ℕ} [NeZero n] (f : Fin n → EReal) (k : Fin n) (hk : f k = best f) : firstBest f ≤ k :=
  Finset.min'_le (Finset.univ.filter fun j => f j = best f) k (Finset.mem_filter.mpr ⟨Finset.mem_univ k, hk⟩)

/-- An entry that no entry exceeds and that exceeds every earlier one is the first best. -/
theorem firstBest_eq {n : ℕ} [NeZero n] (f : Fin n → EReal) (m : Fin n) (hm : ∀ k, f k ≤ f m)
    (hlt : ∀ k, k < m → f k < f m) : firstBest f = m := by
  have hb : f m = best f := le_antisymm (le_best f m) (by
    obtain ⟨k, hk⟩ := exists_best f
    rw [← hk]; exact hm k)
  refine le_antisymm (firstBest_le f m hb) (not_lt.mp fun h => ?_)
  have := hlt _ h
  rw [firstBest_spec f, hb] at this
  exact lt_irrefl _ this

/-- Whether no ignored region overlaps the anchor by half or more. -/
def keepBit (a : Fin 4 → EReal) (G : Fin 8 → Fin 4 → EReal) : BitVec 1 :=
  Ideal.cmp .olt (best fun m => iou a (G m)) (Ideal.ofBits .f32 0x3F000000#32)

/-- Whether the anchor is kept and overlaps some box by half or more. -/
def posBit (a : Fin 4 → EReal) (B : Fin 32 → Fin 4 → EReal) (G : Fin 8 → Fin 4 → EReal) : BitVec 1 :=
  IntOp.andi (Ideal.cmp .oge (best fun m => iou a (B m)) (Ideal.ofBits .f32 0x3F000000#32)) (keepBit a G)

/-- Whether the anchor is kept and overlaps every box by less than two fifths. -/
def negBit (a : Fin 4 → EReal) (B : Fin 32 → Fin 4 → EReal) (G : Fin 8 → Fin 4 → EReal) : BitVec 1 :=
  IntOp.andi (Ideal.cmp .olt (best fun m => iou a (B m)) (Ideal.ofBits .f32 0x3ECCCCCD#32)) (keepBit a G)

/-- The box the anchor is assigned to: the first of those it overlaps most. -/
def target (a : Fin 4 → EReal) (B : Fin 32 → Fin 4 → EReal) : Fin 32 := firstBest fun m => iou a (B m)

/-- A bit as the number 0 or 1. -/
def bit (b : BitVec 1) : EReal := ((b.toNat : ℝ) : EReal)

/-- The smooth absolute value of one offset's error: quadratic up to 1/9, linear beyond. -/
def smooth (d : EReal) : EReal :=
  Scalar.select (Ideal.cmp .ole d (Ideal.ofBits .f32 0x3DE38E39#32))
    (Ideal.ofBits .f32 0x40900000#32 * (d * d)) (d - Ideal.ofBits .f32 0x3D638E39#32)

/-- The offset of a box's centre from an anchor's, along the axis `k` of the corners, in tenths of the anchor's extent. -/
def centreOffset (a b : Fin 4 → EReal) (k k' : Fin 4) : EReal :=
  Ideal.div (Ideal.div ((b k + Ideal.ofBits .f32 0x3F000000#32 * (b k' - b k))
    - (a k + Ideal.ofBits .f32 0x3F000000#32 * (a k' - a k))) (a k' - a k)) (Ideal.ofBits .f32 0x3DCCCCCD#32)

/-- The logarithm of the ratio of a box's extent (at least 1) to the anchor's, in fifths. -/
def sizeOffset (a b : Fin 4 → EReal) (k k' : Fin 4) : EReal :=
  Ideal.div (Ideal.log (Ideal.div (max (b k' - b k) 1) (a k' - a k))) (Ideal.ofBits .f32 0x3E4CCCCD#32)

/-- The four offsets of box `b` from anchor `a`. -/
def offset (a b : Fin 4 → EReal) : Fin 4 → EReal :=
  ![centreOffset a b 0 2, centreOffset a b 1 3, sizeOffset a b 0 2, sizeOffset a b 1 3]

/-- The error of one predicted offset. -/
def offsetErr (a b r : Fin 4 → EReal) (k : Fin 4) : EReal :=
  max (offset a b k - r k) (-(offset a b k - r k))

/-- The loss of the four predicted offsets `r` of an anchor `a` assigned to box `b`. -/
def boxLoss (a b r : Fin 4 → EReal) : EReal := ∑ k : Fin 4, smooth (offsetErr a b r k)

end Cert.FocalLoss

end

end
-- ==== Proof.KernelClass.lean ====
/-
  What one grid point of the kernel computes from the class scores: the sum over the anchors of the class loss, each
  anchor's loss made of one weighted sum over its eighty scores and a correction at the score of its own label.
-/
module

public import proofs.«01_k».proof.Proof.Gen.KernelIdeal.Skeleton
public import proofs.«01_k».proof.Proof.Loss

@[expose] public section

noncomputable section

open Idealize.ShloMosaic

namespace Cert.KernelIdeal.Value

open Cert.KernelIdeal Cert.KernelIdeal.Gen Cert.FocalLoss

/-- The upper and the lower end of the clipped scores. -/
abbrev hi : EReal := Ideal.ofBits .f32 0x3F7FF972#32
abbrev lo : EReal := Ideal.ofBits .f32 0x38D1B717#32

/-- The weighted sum over one anchor's scores, clipped from above only. -/
def scoreSum (x : Fin 80 → EReal) : EReal :=
  ∑ c : Fin 80, min (x c) hi * min (x c) hi
    * (Ideal.log (1 - min (x c) hi) * (Named.named κ "inv_ln2" 0x3FB8AA3B#32 : Ideal .f32))

/-- The score of the label `lab`, clipped. -/
def picked (x : Fin 80 → EReal) (lab : BitVec 32) : EReal :=
  min hi (max lo (∑ c : Fin 80, Scalar.select (IntOp.cmpi .eq (BitVec.ofNat 32 c.val) lab) (min (x c) hi) 0))

/-- The loss of an anchor all of whose targets are zero. -/
def baseLoss (x : Fin 80 → EReal) : EReal := scoreSum x * (Named.named κ "base_scale" 0xBF051592#32 : Ideal .f32)

/-- One anchor's class loss as the kernel forms it: `y` is the clipped score of its label. -/
def anchorLoss (p n : BitVec 1) (base y : EReal) : EReal :=
  Scalar.select p
    (base - Ideal.ofBits .f32 0x3F400000#32 * y * y * (0 - Ideal.log (1 - y))
      + Ideal.ofBits .f32 0x3E800000#32 * (1 - y) * (1 - y) * (0 - Ideal.log y))
    (Scalar.select n base 0)

/-- The place of the anchor at row `s`, lane `l` in the flat order of the anchors. -/
def flat (s : Fin 8) (l : Fin 2500) : Fin 20000 := ⟨s.val * 2500 + l.val, by omega⟩

/-- Eight consecutive pieces of a row, laid one under another. -/
theorem stack_apply (y : FVec Ideal S1x20000 .f32) (s : Fin 8) (l : Fin 2500) :
    concatenate S8x2500 0
      [⟨S1x2500, extractStridedSlice S1x2500 ![0, 0] y slices_S1x20000_o0_0_S1x2500⟩,
       ⟨S1x2500, extractStridedSlice S1x2500 ![0, 2500] y slices_S1x20000_o0_2500_S1x2500⟩,
       ⟨S1x2500, extractStridedSlice S1x2500 ![0, 5000] y slices_S1x20000_o0_5000_S1x2500⟩,
       ⟨S1x2500, extractStridedSlice S1x2500 ![0, 7500] y slices_S1x20000_o0_7500_S1x2500⟩,
       ⟨S1x2500, extractStridedSlice S1x2500 ![0, 10000] y slices_S1x20000_o0_10000_S1x2500⟩,
       ⟨S1x2500, extractStridedSlice S1x2500 ![0, 12500] y slices_S1x20000_o0_12500_S1x2500⟩,
       ⟨S1x2500, extractStridedSlice S1x2500 ![0, 15000] y slices_S1x20000_o0_15000_S1x2500⟩,
       ⟨S1x2500, extractStridedSlice S1x2500 ![0, 17500] y slices_S1x20000_o0_17500_S1x2500⟩]
      concatenates_S1x2500_S1x2500_S1x2500_S1x2500_S1x2500_S1x2500_S1x2500_S1x2500_S8x2500_d0 (ix2 s l)
      = y (ix2 0 (flat s l)) := by
  pointwise
  have hs := s.isLt
  split_ifs <;> exact congrArg₂ (fun a b => y (ix2 a b)) (Subsingleton.elim _ _) (Fin.ext (by simp only [flat]; omega))

/-- The eight rows of a block, laid end to end. -/
theorem flatten_apply (y : IVec S8x2500 32) (s : Fin 8) (l : Fin 2500) :
    concatenate S1x20000 1
      [⟨S1x2500, extractStridedSlice S1x2500 ![0, 0] y slices_S8x2500_o0_0_S1x2500⟩,
       ⟨S1x2500, extractStridedSlice S1x2500 ![1, 0] y slices_S8x2500_o1_0_S1x2500⟩,
       ⟨S1x2500, extractStridedSlice S1x2500 ![2, 0] y slices_S8x2500_o2_0_S1x2500⟩,
       ⟨S1x2500, extractStridedSlice S1x2500 ![3, 0] y slices_S8x2500_o3_0_S1x2500⟩,
       ⟨S1x2500, extractStridedSlice S1x2500 ![4, 0] y slices_S8x2500_o4_0_S1x2500⟩,
       ⟨S1x2500, extractStridedSlice S1x2500 ![5, 0] y slices_S8x2500_o5_0_S1x2500⟩,
       ⟨S1x2500, extractStridedSlice S1x2500 ![6, 0] y slices_S8x2500_o6_0_S1x2500⟩,
       ⟨S1x2500, extractStridedSlice S1x2500 ![7, 0] y slices_S8x2500_o7_0_S1x2500⟩]
      concatenates_S1x2500_S1x2500_S1x2500_S1x2500_S1x2500_S1x2500_S1x2500_S1x2500_S1x20000_d1 (ix2 0 (flat s l))
      = y (ix2 s l) := by
  have hl := l.isLt
  have hs := s.isLt
  have hn : (flat s l).val = s.val * 2500 + l.val := rfl
  generalize flat s l = n at hn ⊢
  pointwise
  split_ifs <;>
    refine congrArg₂ (fun a b => y (ix2 a b)) (Fin.ext ?_) (Fin.ext ?_) <;> (try dsimp only) <;>
    (try simp only [Fin.val_zero, Fin.val_one]) <;> omega

/-- The sum over the scores of those whose class is the anchor's label. -/
theorem pick_apply (v : FVec Ideal S80x20000 .f32) (L : IVec S1x20000 32) (n : Fin 20000) :
    matmul dot_S1x80_S80x20000_S1x20000_1_0_0_1_n_n none (k0_pay158 (F := Ideal))
        (select (cmpi .eq (iota .tc S80x20000 32 [0] iota_S80x20000_d0_w32) (broadcastTo S80x20000 L broadcasts_S1x20000_S80x20000))
          v (broadcast S80x20000 (Scalar.ofBits (F := Ideal) .f32 0x00000000#32)))
        (constant S1x20000 .f32 0x00000000#32) (ix2 0 n)
      = ∑ c : Fin 80, Scalar.select (IntOp.cmpi .eq (BitVec.ofNat 32 c.val) (L (ix2 0 n))) (v (ix2 c n)) 0 := by
  unfold k0_pay158
  pointwise

section Scores

variable (x : Vec Ideal S1x80x20000 .f32) (L : IVec S8x2500 32)

/-- The scores of the anchor at `n`. -/
def scoresAt (n : Fin 20000) : Fin 80 → EReal := fun c => x (ix3 0 c n)

/-- The scores, clipped from above. -/
theorem clipped_apply (c : Fin 80) (n : Fin 20000) : k0_pay157 x (ix2 c n) = min (scoresAt x n c) hi := by
  unfold k0_pay157
  pointwise
  rfl

/-- The weighted sum over the classes, at anchor `n`. -/
theorem scoreSum_apply (n : Fin 20000) : k0_pay159 x (ix2 0 n) = scoreSum (scoresAt x n) := by
  unfold k0_pay159 k0_pay158
  pointwise
  simp only [clipped_apply]
  rfl

/-- The loss with all targets zero, at row `s` and lane `l`. -/
theorem baseLoss_apply (s : Fin 8) (l : Fin 2500) :
    k0_pay166 (k0_pay159 x) (ix2 s l) = baseLoss (scoresAt x (flat s l)) := by
  unfold k0_pay166
  refine (congrArg₂ (· * ·) (stack_apply (k0_pay159 x) s l) rfl).trans ?_
  rw [scoreSum_apply]
  rfl

/-- The clipped score of each anchor's label. -/
theorem picked_apply (s : Fin 8) (l : Fin 2500) :
    k0_pay165 L (k0_pay157 x) k0_pay158
        (extractStridedSlice S1x2500 ![0, 0] L slices_S8x2500_o0_0_S1x2500)
        (extractStridedSlice S1x2500 ![1, 0] L slices_S8x2500_o1_0_S1x2500)
        (extractStridedSlice S1x2500 ![2, 0] L slices_S8x2500_o2_0_S1x2500)
        (extractStridedSlice S1x2500 ![3, 0] L slices_S8x2500_o3_0_S1x2500)
        (extractStridedSlice S1x2500 ![4, 0] L slices_S8x2500_o4_0_S1x2500) (ix2 s l)
      = picked (scoresAt x (flat s l)) (L (ix2 s l)) := by
  unfold k0_pay165
  refine (congrArg (fun t => min hi (max lo t)) (stack_apply _ s l)).trans ?_
  refine (congrArg (fun t => min hi (max lo t)) (pick_apply _ _ _)).trans ?_
  rw [flatten_apply]
  simp only [clipped_apply]
  rfl

/-- The class loss summed over the image's anchors. -/
theorem classLoss_eq (P N : IVec S8x2500 1) :
    k0_pay170 P N
        (k0_pay165 L (k0_pay157 x) k0_pay158
          (extractStridedSlice S1x2500 ![0, 0] L slices_S8x2500_o0_0_S1x2500)
          (extractStridedSlice S1x2500 ![1, 0] L slices_S8x2500_o1_0_S1x2500)
          (extractStridedSlice S1x2500 ![2, 0] L slices_S8x2500_o2_0_S1x2500)
          (extractStridedSlice S1x2500 ![3, 0] L slices_S8x2500_o3_0_S1x2500)
          (extractStridedSlice S1x2500 ![4, 0] L slices_S8x2500_o4_0_S1x2500))
        (k0_pay166 (k0_pay159 x))
        (k0_pay167 L (k0_pay157 x) k0_pay158
          (extractStridedSlice S1x2500 ![0, 0] L slices_S8x2500_o0_0_S1x2500)
          (extractStridedSlice S1x2500 ![1, 0] L slices_S8x2500_o1_0_S1x2500)
          (extractStridedSlice S1x2500 ![2, 0] L slices_S8x2500_o2_0_S1x2500)
          (extractStridedSlice S1x2500 ![3, 0] L slices_S8x2500_o3_0_S1x2500)
          (extractStridedSlice S1x2500 ![4, 0] L slices_S8x2500_o4_0_S1x2500))
        (k0_pay168 L (k0_pay157 x) k0_pay158
          (extractStridedSlice S1x2500 ![0, 0] L slices_S8x2500_o0_0_S1x2500)
          (extractStridedSlice S1x2500 ![1, 0] L slices_S8x2500_o1_0_S1x2500)
          (extractStridedSlice S1x2500 ![2, 0] L slices_S8x2500_o2_0_S1x2500)
          (extractStridedSlice S1x2500 ![3, 0] L slices_S8x2500_o3_0_S1x2500)
          (extractStridedSlice S1x2500 ![4, 0] L slices_S8x2500_o4_0_S1x2500))
        (k0_pay169 L (k0_pay157 x) k0_pay158
          (extractStridedSlice S1x2500 ![0, 0] L slices_S8x2500_o0_0_S1x2500)
          (extractStridedSlice S1x2500 ![1, 0] L slices_S8x2500_o1_0_S1x2500)
          (extractStridedSlice S1x2500 ![2, 0] L slices_S8x2500_o2_0_S1x2500)
          (extractStridedSlice S1x2500 ![3, 0] L slices_S8x2500_o3_0_S1x2500)
          (extractStridedSlice S1x2500 ![4, 0] L slices_S8x2500_o4_0_S1x2500))
      = ∑ s : Fin 8, ∑ l : Fin 2500, anchorLoss (P (ix2 s l)) (N (ix2 s l)) (baseLoss (scoresAt x (flat s l)))
          (picked (scoresAt x (flat s l)) (L (ix2 s l))) := by
  unfold k0_pay167 k0_pay168 k0_pay169 k0_pay170
  generalize hy : k0_pay165 (F := Ideal) L _ _ _ _ _ _ _ = y
  generalize hb : k0_pay166 (F := Ideal) _ = b
  have h : ∀ s l, y (ix2 s l) = picked (scoresAt x (flat s l)) (L (ix2 s l)) := fun s l => by rw [← hy, picked_apply]
  have h' : ∀ s l, b (ix2 s l) = baseLoss (scoresAt x (flat s l)) := fun s l => by rw [← hb, baseLoss_apply]
  clear hy hb
  pointwise
  refine Finset.sum_congr rfl fun s _ => Finset.sum_congr rfl fun l _ => ?_
  rw [h, h']
  rfl

end Scores

end Cert.KernelIdeal.Value

end

end
-- ==== Proof.Images.lean ====
/-
  The five argument arrays as the eight images' data, and the two quantities both programs share: which annotation each
  anchor is assigned to and whether the anchor is positive or negative.
-/
module

public import proofs.«01_k».proof.Proof.Loss
public import Idealize.ShloMosaic.Lib.Pointwise

@[expose] public section

noncomputable section

open Idealize.ShloMosaic

namespace Cert.FocalLoss

/-- The class scores, the regressions, the anchors, the annotations and the ignored regions. -/
structure Data where
  cls : Fin 8 → Fin 20000 → Fin 80 → EReal
  reg : Fin 8 → Fin 20000 → Fin 4 → EReal
  anc : Fin 20000 → Fin 4 → EReal
  ann : Fin 8 → Fin 32 → Fin 5 → EReal
  ign : Fin 8 → Fin 8 → Fin 5 → EReal

/-- The data the arrays hold. -/
def Data.of (x0 : FVec Ideal ⟨3, ![8, 20000, 80]⟩ .f32) (x1 : FVec Ideal ⟨3, ![8, 20000, 4]⟩ .f32)
    (x2 : FVec Ideal ⟨3, ![1, 20000, 4]⟩ .f32) (x3 : FVec Ideal ⟨3, ![8, 32, 5]⟩ .f32)
    (x4 : FVec Ideal ⟨3, ![8, 8, 5]⟩ .f32) : Data where
  cls b n c := x0 (ix3 b n c)
  reg b n k := x1 (ix3 b n k)
  anc n k := x2 (ix3 0 n k)
  ann b m k := x3 (ix3 b m k)
  ign b m k := x4 (ix3 b m k)

namespace Data

variable (D : Data) (b : Fin 8)

/-- The corners of the image's annotated boxes and of its ignored regions. -/
def box (m : Fin 32) : Fin 4 → EReal := fun k => D.ann b m k.castSucc
def region (m : Fin 8) : Fin 4 → EReal := fun k => D.ign b m k.castSucc

/-- The label of annotation `m`. -/
def label (m : Fin 32) : BitVec 32 := Ideal.fptosi 32 (D.ann b m 4)

/-- The annotation anchor `n` is assigned to. -/
def tgt (n : Fin 20000) : Fin 32 := target (D.anc n) (D.box b)

/-- Whether anchor `n` is positive, whether it is negative, and the number of positive anchors. -/
def pos (n : Fin 20000) : BitVec 1 := posBit (D.anc n) (D.box b) (D.region b)
def neg (n : Fin 20000) : BitVec 1 := negBit (D.anc n) (D.box b) (D.region b)
def count : EReal := ∑ n, bit (D.pos b n)

end Data

end Cert.FocalLoss

end

end
-- ==== Proof.First.lean ====
/-
  The one greatest entry a host `top_k` returns is the first of the greatest.
-/
module

public import proofs.«01_k».proof.Proof.Loss

@[expose] public section

noncomputable section

open Idealize.ShloMosaic

namespace Cert.FocalLoss

variable {ι : Type}

/-- The head of a list into which `a` is inserted: `a`, or the old head where that sorts before `a`. -/
theorem insertBefore_head (before : ι → ι → Bool) (a : ι) (l : List ι) : (insertBefore before a l).head? =
    some (match l.head? with | none => a | some b => if before b a then b else a) := by
  cases l with
  | nil => rfl
  | cons b l => unfold insertBefore; by_cases hb : before b a = true <;> simp [hb]

/-- The head of an increasing list sorted by greatest value: nothing exceeds it, and it exceeds everything before it. -/
theorem stableSort_head {n : ℕ} (f : Fin n → EReal) : ∀ l : List (Fin n), l.Pairwise (· < ·) → ∀ h,
    (stableSort (fun k k' => Ideal.cmp .ogt (f k) (f k') == 1#1) l).head? = some h →
      h ∈ l ∧ ∀ k ∈ l, f k ≤ f h ∧ (k < h → f k < f h)
  | [], _, h, he => by simp [stableSort] at he
  | a :: l, hl, h, he => by
    have hcmp (x y : EReal) : ((Ideal.cmp .ogt x y == 1#1) = true) ↔ y < x := by
      unfold Ideal.cmp; by_cases hxy : y < x <;> simp [hxy]
    obtain ⟨ha, hl'⟩ := List.pairwise_cons.mp hl
    unfold stableSort at he
    rw [insertBefore_head, Option.some.injEq] at he
    cases hs : (stableSort (fun k k' => Ideal.cmp .ogt (f k) (f k') == 1#1) l).head? with
    | none =>
      have h0 : l = [] := by
        cases l with
        | nil => rfl
        | cons b l =>
          have := congrArg List.length (List.head?_eq_none_iff.mp hs)
          rw [length_stableSort] at this
          simp at this
      rw [hs] at he
      subst h0 he
      simp
    | some b =>
      obtain ⟨hb, hbest⟩ := stableSort_head f l hl' b hs
      rw [hs] at he
      dsimp only at he
      by_cases hab : f a < f b
      · rw [if_pos ((hcmp _ _).mpr hab)] at he
        subst he
        refine ⟨List.mem_cons_of_mem _ hb, fun k hk => ?_⟩
        rcases List.mem_cons.mp hk with rfl | hk
        · exact ⟨hab.le, fun _ => hab⟩
        · exact hbest k hk
      · rw [if_neg (fun hc => hab ((hcmp _ _).mp hc))] at he
        subst he
        refine ⟨List.mem_cons_self, fun k hk => ?_⟩
        rcases List.mem_cons.mp hk with rfl | hk
        · exact ⟨le_rfl, fun hk => absurd hk (lt_irrefl _)⟩
        · exact ⟨(hbest k hk).1.trans (not_lt.mp hab), fun hka => absurd hka (not_lt.mpr (ha k hk).le)⟩

/-- The first position of a sort holds the first of the greatest values. -/
theorem sortedFrom_zero {n : ℕ} [NeZero n] (f : Fin n → EReal) :
    sortedFrom (fun k k' => Ideal.cmp .ogt (f k) (f k') == 1#1) 0 = firstBest f := by
  have hh : (stableSort (fun k k' => Ideal.cmp .ogt (f k) (f k') == 1#1) (List.finRange n)).head?
      = some (sortedFrom (fun k k' => Ideal.cmp .ogt (f k) (f k') == 1#1) 0) := by
    rw [List.head?_eq_getElem?, List.getElem?_eq_getElem (by
      rw [length_stableSort, List.length_finRange]; exact Nat.pos_of_ne_zero (NeZero.ne n))]
    rfl
  obtain ⟨-, hb⟩ := stableSort_head f _ (List.pairwise_lt_finRange n) _ hh
  exact (firstBest_eq f _ (fun k => (hb k (List.mem_finRange k)).1) fun k => (hb k (List.mem_finRange k)).2).symm

/-- The index `top_k` returns at `j`, read in the operand's shape at `J`: the position sorted there along the axis. -/
theorem topK_snd {s t : Shape} (d : Nat) (hd : d < s.rank) {α : Type} (gt : α → α → BitVec 1) (x : s.Idx → α)
    (h : s.Slices (fun _ => 0) t) (j : t.Idx) (J : s.Idx) (hJ : ∀ a, (J a).val = (j (a.cast h.1.symm)).val) :
    (Host.topK t d gt x h).2 j = BitVec.ofNat 32 (sortedFrom (fun k k' =>
      gt (x (J.along ⟨d, hd⟩ k)) (x (J.along ⟨d, hd⟩ k')) == 1#1) (J ⟨d, hd⟩)).val := by
  have e : (fun a => ⟨0 + (j (a.cast h.1.symm)).val, Nat.lt_of_lt_of_le (Nat.add_lt_add_left (Fin.isLt _) _) (h.2 a)⟩ : s.Idx)
      = J := funext fun a => Fin.ext (by rw [hJ a]; exact Nat.zero_add _)
  unfold Host.topK extractStridedSlice Host.sort2
  simp only [dif_pos hd]
  rw [e]
  unfold iotaInDim Shape.Idx.along
  rw [Function.update_self]
  exact congrArg (fun q => BitVec.ofNat 32 (sortedFrom _ q).val) (congrFun e ⟨d, hd⟩)

/-- The index returned beside the one greatest entry of each row. -/
theorem topK_index (x : FVec Ideal ⟨3, ![8, 20000, 32]⟩ .f32) (h) (b : Fin 8) (n : Fin 20000) :
    (Host.topK ⟨3, ![8, 20000, 1]⟩ 2 (FloatOps.cmpfTotal .gt) x h).2 (ix3 b n 0)
      = BitVec.ofNat 32 (firstBest fun m : Fin 32 => (x (ix3 b n m) : EReal)).val := by
  have hx (k : Fin 32) : (ix3 b n (0 : Fin 32)).along (2 : Fin 3) k = ix3 b n k := by
    funext a
    match a with
    | ⟨0, _⟩ => rfl
    | ⟨1, _⟩ => rfl
    | ⟨2, _⟩ => rfl
  rw [← sortedFrom_zero, topK_snd (s := ⟨3, ![8, 20000, 32]⟩) 2 (by decide) _ x h (ix3 b n 0) (ix3 b n (0 : Fin 32)) (fun a => by
    match a with
    | ⟨0, _⟩ => rfl
    | ⟨1, _⟩ => rfl
    | ⟨2, _⟩ => rfl)]
  refine congrArg (fun R : Fin 32 → Fin 32 → Bool => BitVec.ofNat 32 (sortedFrom R 0).val) (funext fun k => funext fun k' => ?_)
  exact congrArg₂ (fun u v => Ideal.cmp .ogt u v == 1#1) (congrArg x (hx k)) (congrArg x (hx k'))

end Cert.FocalLoss

end

end
-- ==== Proof.RefBoxes.lean ====
/-
  The reference's boxes, read at an anchor: the overlaps with the annotated boxes and with the ignored regions, whether
  the anchor is positive or negative, and the annotation it is assigned to.
-/
module

public import proofs.«01_k».proof.Proof.Images
public import proofs.«01_k».proof.Proof.First
public import proofs.«01_k».proof.Proof.Gen.ReferenceIdeal.Read

@[expose] public section

noncomputable section

open Idealize.ShloMosaic Idealize.ShloMosaic.TcCoe Idealize.SL.Sem

namespace Cert.ReferenceIdeal.Value

open Cert.ReferenceIdeal Cert.ReferenceIdeal.Read Cert.FocalLoss

variable (x0 : FVec Ideal S8x20000x80 .f32) (x1 : FVec Ideal S8x20000x4 .f32) (x2 : FVec Ideal S1x20000x4 .f32)
  (x3 : FVec Ideal S8x32x5 .f32) (x4 : FVec Ideal S8x8x5 .f32)

/-- The anchors, read at an index. -/
theorem anchor_apply (n : Fin 20000) (k : Fin 4) : val_main_v0 (F := Ideal) x2 (ix2 n k) = x2 (ix3 0 n k) := by
  unfold val_main_v0
  pointwise

/-- The overlap of anchor `n` with ignored region `g`, and with annotation `m`. -/
theorem region_iou (b : Fin 8) (n : Fin 20000) (g : Fin 8) :
    val_main_v102 (F := Ideal) x2 x4 (ix3 b n g) = iou (Data.anc (Data.of x0 x1 x2 x3 x4) n) (Data.region (Data.of x0 x1 x2 x3 x4) b g) := by
  simp only [val_main_v102, val_main_v101, val_main_v100, val_main_v99, val_main_v98, val_main_v97, val_main_v96,
    val_main_v95, val_main_v94, val_main_v93, val_main_v92, val_main_v91, val_main_v90, val_main_v89,
    val_main_v88, val_main_v87, val_main_v86, val_main_v85, val_main_v84, val_main_v83, val_main_v82,
    val_main_v81, val_main_v80, val_main_v79, val_main_v78, val_main_v77, val_main_v76, val_main_v75,
    val_main_v74, val_main_v73, val_main_v72, val_main_v71, val_main_v70, val_main_v69, val_main_v68,
    val_main_v67, val_main_v66, val_main_v65, val_main_v64, val_main_v63, val_main_v62, val_main_v61,
    val_main_v60, val_main_v59, val_main_v58, val_main_v57, val_main_v56, val_main_v55, val_main_v54,
    val_main_v53, val_main_v52, val_main_v51, val_main_v50, val_main_v49, val_main_v48, val_main_v47,
    val_main_v46, val_main_v45, val_main_v44, val_main_v43, val_main_v42, val_main_v41, val_main_v40,
    val_main_v39, val_main_v38, val_main_v37, val_main_v36, val_main_v35, val_main_v34, val_main_v33,
    val_main_v32, val_main_v31, val_main_v30, val_main_v29, val_main_v28, val_main_v27, val_main_v26,
    val_main_v25, val_main_v24, val_main_v23, val_main_v22, val_main_cst_3, val_main_cst_4, val_main_cst_5]
  pointwise
  simp only [anchor_apply]
  rfl

theorem box_iou (b : Fin 8) (n : Fin 20000) (m : Fin 32) :
    val_main_v186 (F := Ideal) x2 x3 (ix3 b n m) = iou (Data.anc (Data.of x0 x1 x2 x3 x4) n) (Data.box (Data.of x0 x1 x2 x3 x4) b m) := by
  simp only [val_main_v186, val_main_v185, val_main_v184, val_main_v183, val_main_v182, val_main_v181, val_main_v180,
    val_main_v179, val_main_v178, val_main_v177, val_main_v176, val_main_v175, val_main_v174, val_main_v173,
    val_main_v172, val_main_v171, val_main_v170, val_main_v169, val_main_v168, val_main_v167, val_main_v166,
    val_main_v165, val_main_v164, val_main_v163, val_main_v162, val_main_v161, val_main_v160, val_main_v159,
    val_main_v158, val_main_v157, val_main_v156, val_main_v155, val_main_v154, val_main_v153, val_main_v152,
    val_main_v151, val_main_v150, val_main_v149, val_main_v148, val_main_v147, val_main_v146, val_main_v145,
    val_main_v144, val_main_v143, val_main_v142, val_main_v141, val_main_v140, val_main_v139, val_main_v138,
    val_main_v137, val_main_v136, val_main_v135, val_main_v134, val_main_v133, val_main_v132, val_main_v131,
    val_main_v130, val_main_v129, val_main_v128, val_main_v127, val_main_v126, val_main_v125, val_main_v124,
    val_main_v123, val_main_v122, val_main_v121, val_main_v120, val_main_v119, val_main_v118, val_main_v117,
    val_main_v116, val_main_v115, val_main_v114, val_main_v113, val_main_v112, val_main_v111, val_main_v110,
    val_main_v109, val_main_v108, val_main_v107, val_main_v106, val_main_cst_8, val_main_cst_9, val_main_cst_10]
  pointwise
  simp only [anchor_apply]
  rfl

/-! ## The best overlaps -/

/-- The best overlap of anchor `n` with a region and with an annotation. -/
theorem region_best (b : Fin 8) (n : Fin 20000) :
    val_main_v103 (F := Ideal) x2 x4 (ix2 b n) = best fun g => iou (Data.anc (Data.of x0 x1 x2 x3 x4) n) (Data.region (Data.of x0 x1 x2 x3 x4) b g) := by
  simp only [← region_iou]
  unfold val_main_v103 val_main_cst_6
  generalize val_main_v102 (F := Ideal) x2 x4 = y
  pointwise
  rfl

theorem box_best (b : Fin 8) (n : Fin 20000) :
    val_main_v187 (F := Ideal) x2 x3 (ix2 b n) = best fun m => iou (Data.anc (Data.of x0 x1 x2 x3 x4) n) (Data.box (Data.of x0 x1 x2 x3 x4) b m) := by
  simp only [← box_iou]
  unfold val_main_v187 val_main_cst_11
  generalize val_main_v186 (F := Ideal) x2 x3 = y
  pointwise
  rfl

/-- Whether anchor `n` is positive, and whether it is negative. -/
theorem pos_apply (b : Fin 8) (n : Fin 20000) : val_main_v191 (F := Ideal) x2 x3 x4 (ix2 b n) = Data.pos (Data.of x0 x1 x2 x3 x4) b n := by
  rw [val_main_v191_apply, val_main_v190_apply, val_main_v105_apply, region_best x0 x1 x2 x3 x4, box_best x0 x1 x2 x3 x4,
    val_main_v189_apply, val_main_v104_apply]
  rfl

theorem neg_apply (b : Fin 8) (n : Fin 20000) : val_main_v194 (F := Ideal) x2 x3 x4 (ix2 b n) = Data.neg (Data.of x0 x1 x2 x3 x4) b n := by
  rw [val_main_v194_apply, val_main_v193_apply, val_main_v105_apply, region_best x0 x1 x2 x3 x4, box_best x0 x1 x2 x3 x4,
    val_main_v192_apply, val_main_v104_apply]
  rfl

/-! ## The assigned annotation -/

/-- The index of the annotation anchor `n` is assigned to. -/
theorem index_apply (b : Fin 8) (n : Fin 20000) :
    val_main_indices (F := Ideal) x2 x3 (ix3 b n 0) = BitVec.ofNat 32 (Data.tgt (Data.of x0 x1 x2 x3 x4) b n).val := by
  unfold val_main_indices
  rw [topK_index]
  simp only [box_iou x0 x1 x2 x3 x4]
  rfl

/-- The index is not negative, so the gather's start is the index. -/
theorem start_apply (b : Fin 8) (n : Fin 20000) :
    val_main_v203 (F := Ideal) x2 x3 (ix3 b n 0) = BitVec.ofNat 32 (Data.tgt (Data.of x0 x1 x2 x3 x4) b n).val := by
  have h188 : val_main_v188 (F := Ideal) x2 x3 (ix2 b n) = BitVec.ofNat 32 (Data.tgt (Data.of x0 x1 x2 x3 x4) b n).val := by
    rw [← index_apply]
    unfold val_main_v188
    pointwise
  have hlt : (Data.tgt (Data.of x0 x1 x2 x3 x4) b n).val < 32 := (Data.tgt (Data.of x0 x1 x2 x3 x4) b n).isLt
  have hnn : ¬ (BitVec.ofNat 32 (Data.tgt (Data.of x0 x1 x2 x3 x4) b n).val).slt 0#32 := by
    generalize (Data.tgt (Data.of x0 x1 x2 x3 x4) b n).val = k at hlt
    interval_cases k <;> decide
  rw [val_main_v203_apply, val_main_v202_apply, val_main_v199_apply]
  show Scalar.select (IntOp.cmpi .slt (val_main_v188 (F := Ideal) x2 x3 (ix2 b n)) 0#32) _
    (val_main_v188 (F := Ideal) x2 x3 (ix2 b n)) = _
  rw [h188]
  simp [IntOp.cmpi, Scalar.select, hnn]

/-- The annotation itself. -/
theorem annotation_apply (b : Fin 8) (n : Fin 20000) (k : Fin 5) :
    val_main_v204 (F := Ideal) x2 x3 (ix3 b n k) = ((Data.of x0 x1 x2 x3 x4)).ann b (Data.tgt (Data.of x0 x1 x2 x3 x4) b n) k := by
  unfold val_main_v204 Host.gather
  refine congrArg x3 (funext fun a => Fin.ext ?_)
  have hlt : (Data.tgt (Data.of x0 x1 x2 x3 x4) b n).val < 32 := (Data.tgt (Data.of x0 x1 x2 x3 x4) b n).isLt
  have hs : (BitVec.ofNat 32 (Data.tgt (Data.of x0 x1 x2 x3 x4) b n).val).toInt.toNat = (Data.tgt (Data.of x0 x1 x2 x3 x4) b n).val := by
    generalize (Data.tgt (Data.of x0 x1 x2 x3 x4) b n).val = k at hlt
    interval_cases k <;> decide
  have hi : gather_S8x32x5_S8x20000x1_S8x20000x5_2_1_0_0_1_2_115.siIdx (ix3 b n k) ⟨0, by decide⟩ = ix3 b n 0 := by
    funext a
    match a with
    | ⟨0, _⟩ => rfl
    | ⟨1, _⟩ => rfl
    | ⟨2, _⟩ => rfl
  match a with
  | ⟨0, _⟩ => show 0 + b.val + 0 = b.val; omega
  | ⟨1, _⟩ =>
    show min (val_main_v203 (F := Ideal) x2 x3 (gather_S8x32x5_S8x20000x1_S8x20000x5_2_1_0_0_1_2_115.siIdx (ix3 b n k)
      ⟨0, by decide⟩)).toInt.toNat (32 - 1) + 0 + 0 = (Data.tgt (Data.of x0 x1 x2 x3 x4) b n).val
    rw [hi, start_apply x0 x1 x2 x3 x4, hs]
    omega
  | ⟨2, _⟩ => show 0 + 0 + k.val = k.val; omega

end Cert.ReferenceIdeal.Value

end

end
-- ==== Proof.RefLoss.lean ====
/-
  The reference's losses, read at an anchor: the class loss of each score, the box loss of each offset, the number of
  positive anchors, and the two means it returns.
-/
module

public import proofs.«01_k».proof.Proof.RefBoxes

@[expose] public section

noncomputable section

open Idealize.ShloMosaic Idealize.ShloMosaic.TcCoe Idealize.SL.Sem

namespace Cert.ReferenceIdeal.Value

open Cert.ReferenceIdeal Cert.ReferenceIdeal.Read Cert.FocalLoss

/-- A score clipped from below and from above. -/
def clip (x : EReal) : EReal := min (Ideal.ofBits .f32 0x3F7FF972#32) (max (Ideal.ofBits .f32 0x38D1B717#32) x)

/-- The target of class `c`: the label's indicator at a positive anchor, 0 at a negative one, -1 at any other. -/
def targetValue (p n : BitVec 1) (lab : BitVec 32) (c : Fin 80) : EReal :=
  Scalar.select p (bit (IntOp.cmpi .eq lab (BitVec.ofNat 32 c.val))) (Scalar.select n 0 (Ideal.ofBits .f32 0xBF800000#32))

/-- The class loss of a clipped score `y` whose target is `t`. -/
def classTerm (y t : EReal) : EReal :=
  Scalar.select (Ideal.cmp .une t (Ideal.ofBits .f32 0xBF800000#32))
    (Scalar.select (Ideal.cmp .oeq t (Ideal.ofBits .f32 0x3F800000#32)) (Ideal.ofBits .f32 0x3E800000#32) (Ideal.ofBits .f32 0x3F400000#32)
      * Ideal.pow (Scalar.select (Ideal.cmp .oeq t (Ideal.ofBits .f32 0x3F800000#32)) (Ideal.ofBits .f32 0x3F800000#32 - y) y)
          (Ideal.ofBits .f32 0x40000000#32)
      * -(t * Ideal.log y + (Ideal.ofBits .f32 0x3F800000#32 - t) * Ideal.log (Ideal.ofBits .f32 0x3F800000#32 - y)))
    (Ideal.ofBits .f32 0x00000000#32)

/-- The reference's class loss of a score, its box loss of an offset, and the two losses of an image. -/
def scoreLoss (D : Data) (b : Fin 8) (n : Fin 20000) (c : Fin 80) : EReal :=
  classTerm (clip (D.cls b n c)) (targetValue (D.pos b n) (D.neg b n) (D.label b (D.tgt b n)) c)
def offsetLoss (D : Data) (b : Fin 8) (n : Fin 20000) (k : Fin 4) : EReal :=
  Scalar.select (D.pos b n) (smooth (offsetErr (D.anc n) (D.box b (D.tgt b n)) (D.reg b n) k))
    (Ideal.ofBits .f32 0x00000000#32)
def imageLoss (D : Data) (b : Fin 8) : Fin 2 → EReal :=
  ![Ideal.div (∑ n, ∑ c, scoreLoss D b n c) (max (D.count b) 1),
    Ideal.div (∑ n, ∑ k, offsetLoss D b n k) (max (D.count b * Ideal.ofBits .f32 0x40800000#32) 1)]

variable (x0 : FVec Ideal S8x20000x80 .f32) (x1 : FVec Ideal S8x20000x4 .f32) (x2 : FVec Ideal S1x20000x4 .f32)
  (x3 : FVec Ideal S8x32x5 .f32) (x4 : FVec Ideal S8x8x5 .f32)

/-! ## The number of positive anchors -/

/-- Adding bits as 32-bit integers counts them. -/
theorem fold_bits {ι : Type} [DecidableEq ι] (p : ι → BitVec 1) (s : Finset ι) :
    s.fold IntOp.addi 0#32 (fun x => BitVec.setWidth 32 (p x)) = BitVec.ofNat 32 (∑ x ∈ s, (p x).toNat) := by
  induction s using Finset.induction_on with
  | empty => rfl
  | insert a s ha ih =>
    rw [Finset.fold_insert ha, ih, Finset.sum_insert ha]
    apply BitVec.eq_of_toNat_eq
    simp [IntOp.addi, BitVec.toNat_add, Nat.add_mod]

/-- The number of ones as a sum of bits. -/
theorem sum_bit {ι : Type} [DecidableEq ι] (p : ι → BitVec 1) (s : Finset ι) :
    (((∑ x ∈ s, (p x).toNat : ℕ) : ℝ) : EReal) = ∑ x ∈ s, bit (p x) := by
  induction s using Finset.induction_on with
  | empty => simp
  | insert a s ha ih =>
    rw [Finset.sum_insert ha, Finset.sum_insert ha, ← ih, Nat.cast_add, EReal.coe_add]
    rfl

/-- The number of positive anchors. -/
theorem count_apply (b : Fin 8) : val_main_v197 (F := Ideal) x2 x3 x4 (ix1 b) = Data.count (Data.of x0 x1 x2 x3 x4) b := by
  have h : val_main_v196 (F := Ideal) x2 x3 x4 (ix1 b) = BitVec.ofNat 32 (∑ n, (Data.pos (Data.of x0 x1 x2 x3 x4) b n).toNat) := by
    rw [← fold_bits]
    simp only [← pos_apply]
    unfold val_main_v196 val_main_v195 val_main_c
    generalize val_main_v191 (F := Ideal) x2 x3 x4 = p
    pointwise
  have hle : ∑ n, (Data.pos (Data.of x0 x1 x2 x3 x4) b n).toNat ≤ 20000 := by
    refine (Finset.sum_le_card_nsmul _ _ 1 fun n _ => by have := (Data.pos (Data.of x0 x1 x2 x3 x4) b n).isLt; omega).trans (by simp)
  have hi : (BitVec.ofNat 32 (∑ n, (Data.pos (Data.of x0 x1 x2 x3 x4) b n).toNat)).toInt = ((∑ n, (Data.pos (Data.of x0 x1 x2 x3 x4) b n).toNat : ℕ) : ℤ) := by
    generalize (∑ n, (Data.pos (Data.of x0 x1 x2 x3 x4) b n).toNat) = k at hle
    rw [BitVec.toInt_eq_toNat_of_lt (by rw [BitVec.toNat_ofNat, Nat.mod_eq_of_lt (by omega)]; omega), BitVec.toNat_ofNat,
      Nat.mod_eq_of_lt (by omega)]
  rw [val_main_v197_apply, h]
  show (((BitVec.ofNat 32 (∑ n, (Data.pos (Data.of x0 x1 x2 x3 x4) b n).toNat)).toInt : ℝ) : EReal) = _
  rw [hi, Int.cast_natCast, sum_bit]
  rfl

/-! ## The box loss -/

/-- The four offsets and their errors. -/
theorem offset_apply (b : Fin 8) (n : Fin 20000) (k : Fin 4) :
    val_main_v299 (F := Ideal) x2 x3 (ix3 b n k) = offset (Data.anc (Data.of x0 x1 x2 x3 x4) n) (Data.box (Data.of x0 x1 x2 x3 x4) b (Data.tgt (Data.of x0 x1 x2 x3 x4) b n)) k := by
  simp only [val_main_v299, val_main_v298, val_main_v297, val_main_v296, val_main_v295, val_main_v294, val_main_v293,
    val_main_v292, val_main_v291, val_main_v290, val_main_v289, val_main_v288, val_main_v287, val_main_v286,
    val_main_v285, val_main_v284, val_main_v283, val_main_v282, val_main_v281, val_main_v280, val_main_v279,
    val_main_v278, val_main_v277, val_main_v276, val_main_v275, val_main_v274, val_main_v273, val_main_v272,
    val_main_v271, val_main_v270, val_main_v269, val_main_v268, val_main_v267, val_main_v266, val_main_v265,
    val_main_v264, val_main_v263, val_main_v262, val_main_v261, val_main_v260, val_main_v259, val_main_v258,
    val_main_v257, val_main_v256, val_main_v255, val_main_v254, val_main_v253, val_main_v252, val_main_v251,
    val_main_v250, val_main_v249, val_main_v248, val_main_v247, val_main_v246, val_main_v245, val_main_v244,
    val_main_v243, val_main_cst_30, val_main_cst_31, val_main_cst_32, val_main_cst_33, val_main_cst_34,
    val_main_cst_35, val_main_cst_36, val_main_cst_37, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1,
    val_main_cst, val_main_cst_0]
  pointwise
  simp only [annotation_apply x0 x1 x2 x3 x4, anchor_apply]
  fin_cases k <;> rfl

/-- The box loss of one offset. -/
theorem offsetLoss_apply (b : Fin 8) (n : Fin 20000) (k : Fin 4) :
    val_main_v311 (F := Ideal) x1 x2 x3 x4 (ix3 b n k) = offsetLoss (Data.of x0 x1 x2 x3 x4) b n k := by
  have hp : val_main_call8_v1 (F := Ideal) x2 x3 x4 (ix3 b n k) = Data.pos (Data.of x0 x1 x2 x3 x4) b n := by
    rw [← pos_apply]
    unfold val_main_call8_v1 val_main_v310
    pointwise
  unfold offsetLoss offsetErr
  rw [← offset_apply, ← hp, val_main_v311_apply, val_main_v309_apply, val_main_v308_apply, val_main_v307_apply, val_main_v306_apply,
    val_main_v305_apply, val_main_v304_apply, val_main_v303_apply, val_main_v302_apply, val_main_v301_apply, val_main_v300_apply]
  rfl

/-! ## The class loss -/

/-- The clipped scores. -/
theorem clip_apply (b : Fin 8) (n : Fin 20000) (c : Fin 80) :
    val_main_v21 (F := Ideal) x0 (ix3 b n c) = clip (((Data.of x0 x1 x2 x3 x4)).cls b n c) := by
  simp only [val_main_v21, val_main_call0_v0, val_main_call0_v1, val_main_call0_v2, val_main_call0_v3, val_main_call0_v4,
    val_main_cst_1, val_main_cst_2, id_eq]
  pointwise
  rfl

/-- The targets. -/
theorem target_apply (b : Fin 8) (n : Fin 20000) (c : Fin 80) :
    val_main_v212 (F := Ideal) x2 x3 x4 (ix3 b n c)
      = targetValue (Data.pos (Data.of x0 x1 x2 x3 x4) b n) (Data.neg (Data.of x0 x1 x2 x3 x4) b n) (Data.label (Data.of x0 x1 x2 x3 x4) b (Data.tgt (Data.of x0 x1 x2 x3 x4) b n)) c := by
  unfold Data.label
  rw [← annotation_apply, ← pos_apply, ← neg_apply]
  simp only [val_main_v212, val_main_v211, val_main_v210, val_main_v209, val_main_v208, val_main_v207, val_main_v206,
    val_main_v205, val_main_call1_v0, val_main_call1_v1, val_main_call1_v2, val_main_call1_v3, val_main_call1_v4,
    val_main_call1_v5, val_main_call2_v0, val_main_call2_v1, val_main_call2_v2, val_main_call2_v3,
    val_main_call3_v0, val_main_call3_v1, val_main_call3_v2, val_main_cst_16, val_main_cst_17, id_eq]
  pointwise
  rfl

/-- The class loss of one score. -/
theorem scoreLoss_apply (b : Fin 8) (n : Fin 20000) (c : Fin 80) :
    val_main_v238 (F := Ideal) x0 x2 x3 x4 (ix3 b n c) = scoreLoss (Data.of x0 x1 x2 x3 x4) b n c := by
  unfold scoreLoss
  rw [← clip_apply, ← target_apply]
  rw [val_main_v238_apply, val_main_v237_apply, val_main_v236_apply, val_main_v235_apply, val_main_v234_apply, val_main_v233_apply,
    val_main_v232_apply, val_main_v231_apply, val_main_v230_apply, val_main_v229_apply, val_main_v228_apply, val_main_v227_apply,
    val_main_v226_apply, val_main_v225_apply, val_main_v224_apply, val_main_v223_apply, val_main_v222_apply, val_main_v221_apply,
    val_main_v220_apply, val_main_v219_apply, val_main_v218_apply, val_main_v217_apply, val_main_v216_apply, val_main_v215_apply,
    val_main_v214_apply, val_main_v213_apply]
  generalize val_main_v212 (F := Ideal) x2 x3 x4 (ix3 b n c) = t
  generalize val_main_v21 (F := Ideal) x0 (ix3 b n c) = y
  rfl

/-! ## The two results -/

/-- An image's classification loss. -/
theorem class_apply (b : Fin 8) : val_main_v242 (F := Ideal) x0 x2 x3 x4 (ix1 b) = imageLoss (Data.of x0 x1 x2 x3 x4) b 0 := by
  have h : val_main_v239 (F := Ideal) x0 x2 x3 x4 (ix1 b) = ∑ n, ∑ c, scoreLoss (Data.of x0 x1 x2 x3 x4) b n c := by
    simp only [← scoreLoss_apply]
    unfold val_main_v239 val_main_cst_28
    generalize val_main_v238 (F := Ideal) x0 x2 x3 x4 = p
    pointwise
  unfold val_main_v242 val_main_v241 val_main_v240 val_main_cst_29
  pointwise
  rw [h, count_apply x0 x1 x2 x3 x4]
  unfold imageLoss
  generalize (∑ n, ∑ c, scoreLoss (Data.of x0 x1 x2 x3 x4) b n c) = s
  generalize (∑ n, ∑ k, offsetLoss (Data.of x0 x1 x2 x3 x4) b n k) = t
  generalize Data.count (Data.of x0 x1 x2 x3 x4) b = np
  rfl

/-- An image's box loss. -/
theorem box_apply (b : Fin 8) : val_main_v317 (F := Ideal) x1 x2 x3 x4 (ix1 b) = imageLoss (Data.of x0 x1 x2 x3 x4) b 1 := by
  have h : val_main_v312 (F := Ideal) x1 x2 x3 x4 (ix1 b) = ∑ n, ∑ k, offsetLoss (Data.of x0 x1 x2 x3 x4) b n k := by
    simp only [← offsetLoss_apply]
    unfold val_main_v312 val_main_cst_42
    generalize val_main_v311 (F := Ideal) x1 x2 x3 x4 = p
    pointwise
  unfold val_main_v317 val_main_v316 val_main_v315 val_main_v314 val_main_v313 val_main_cst_43 val_main_cst_44
  pointwise
  rw [h, count_apply x0 x1 x2 x3 x4]
  unfold imageLoss
  generalize (∑ n, ∑ c, scoreLoss (Data.of x0 x1 x2 x3 x4) b n c) = s
  generalize (∑ n, ∑ k, offsetLoss (Data.of x0 x1 x2 x3 x4) b n k) = t
  generalize Data.count (Data.of x0 x1 x2 x3 x4) b = np
  rfl

/-- The two numbers the program returns: the means over the images. -/
theorem returned (a : Fin 2) : val_main_v324 (F := Ideal) x0 x1 x2 x3 x4 (ix1 a)
    = Ideal.div (∑ b, imageLoss (Data.of x0 x1 x2 x3 x4) b a) (Ideal.ofBits .f32 0x41000000#32) := by
  unfold val_main_v324 val_main_v323 val_main_v322 val_main_v321 val_main_v320 val_main_v319 val_main_v318 val_main_cst_45
    val_main_cst_46 val_main_cst_47 val_main_cst_48
  generalize h0 : val_main_v242 (F := Ideal) x0 x2 x3 x4 = p
  generalize h1 : val_main_v317 (F := Ideal) x1 x2 x3 x4 = q
  have hp (b : Fin 8) : p (ix1 b) = imageLoss (Data.of x0 x1 x2 x3 x4) b 0 := by rw [← h0]; exact class_apply x0 x1 x2 x3 x4 b
  have hq (b : Fin 8) : q (ix1 b) = imageLoss (Data.of x0 x1 x2 x3 x4) b 1 := by rw [← h1]; exact box_apply x0 x1 x2 x3 x4 b
  pointwise
  simp only [hp, hq]
  fin_cases a <;> rfl

end Cert.ReferenceIdeal.Value

end

end
-- ==== Proof.ClassEquation.lean ====
/-
  One anchor's class loss: what the kernel forms is the sum over the classes of the reference's terms, for scores at
  least 1e-4 and a label below 80.
-/
module

public import proofs.«01_k».proof.Proof.KernelClass
public import proofs.«01_k».proof.Proof.RefLoss

@[expose] public section

noncomputable section

open Idealize.ShloMosaic

namespace Cert.FocalLoss

open Cert.KernelIdeal.Value (hi lo scoreSum picked baseLoss anchorLoss)
open Cert.ReferenceIdeal.Value (clip targetValue classTerm)

/-! ## The constants -/

/-- The float constants of the two programs, and the two named ones, as real numbers. -/
theorem lo_val : Ideal.ofBits .f32 0x38D1B717#32 = ((13743895 / 2 ^ 37 : ℝ) : EReal) := by
  simp [Ideal.ofBits, Ideal.ieee, -EReal.coe_mul]; norm_num
theorem hi_val : Ideal.ofBits .f32 0x3F7FF972#32 = ((16775538 / 2 ^ 24 : ℝ) : EReal) := by
  simp [Ideal.ofBits, Ideal.ieee, -EReal.coe_mul]; norm_num
theorem quarter_val : Ideal.ofBits .f32 0x3E800000#32 = ((1 / 4 : ℝ) : EReal) := by
  simp [Ideal.ofBits, Ideal.ieee, -EReal.coe_mul]; norm_num
theorem threequarters_val : Ideal.ofBits .f32 0x3F400000#32 = ((3 / 4 : ℝ) : EReal) := by
  simp [Ideal.ofBits, Ideal.ieee, -EReal.coe_mul]; norm_num
theorem zero_val : Ideal.ofBits .f32 0x00000000#32 = ((0 : ℝ) : EReal) := by
  simp [Ideal.ofBits, Ideal.ieee, -EReal.coe_mul]
theorem one_val : Ideal.ofBits .f32 0x3F800000#32 = ((1 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem minusone_val : Ideal.ofBits .f32 0xBF800000#32 = ((-1 : ℝ) : EReal) := by
  simp [Ideal.ofBits, Ideal.ieee, -EReal.coe_mul]; norm_num
theorem inv_ln2_val : (Named.named Cert.KernelIdeal.κ "inv_ln2" 0x3FB8AA3B#32 : Ideal .f32) = (((Real.log 2)⁻¹ : ℝ) : EReal) :=
  IdealRules.named_const.ideal_named_scalar _ _ _ _ rfl
theorem base_scale_val : (Named.named Cert.KernelIdeal.κ "base_scale" 0xBF051592#32 : Ideal .f32)
    = ((-((3 / 4) * Real.log 2) : ℝ) : EReal) :=
  IdealRules.named_const.ideal_named_scalar _ _ _ _ rfl

/-! ## The reference's terms at a real score -/

section Terms

variable {r : ℝ} (h0 : 0 < r) (h1 : r < 1)
include h0 h1

/-- The losses of a score whose target is 0 and of one whose target is 1. -/
theorem term_zero : classTerm r ((0 : ℝ) : EReal) = ((-(3 / 4) * r ^ 2 * Real.log (1 - r) : ℝ) : EReal) := by
  have hr : ¬ r ≤ 0 := not_le.mpr h0
  have hs : ¬ 1 - r ≤ 0 := by linarith
  have hc : Ideal.cmp .une ((0 : ℝ) : EReal) ((-1 : ℝ) : EReal) = 1#1 := by
    have : ¬ ((0 : ℝ) : EReal) = ((-1 : ℝ) : EReal) := by rw [EReal.coe_eq_coe_iff]; norm_num
    unfold Ideal.cmp; simp only [ne_eq, this, not_false_eq_true, decide_true]; rfl
  have hd : Ideal.cmp .oeq ((0 : ℝ) : EReal) ((1 : ℝ) : EReal) = 0#1 := by simp [Ideal.cmp]
  have hp : Real.rpow r 2 = r ^ 2 := Real.rpow_two r
  unfold classTerm
  rw [minusone_val, one_val, quarter_val, threequarters_val, two_val, hc, hd, ← EReal.coe_sub, ← EReal.coe_sub, Ideal.log_coe,
    Ideal.log_coe, if_neg hr, if_neg hs]
  show _ * Ideal.pow r ((2 : ℝ) : EReal) * _ = _
  rw [Ideal.pow_coe_coe, hp]
  show ((3 / 4 : ℝ) : EReal) * _ * _ = _
  simp only [← EReal.coe_mul, ← EReal.coe_add, ← EReal.coe_neg]
  congr 1; ring

/-- The loss of a score whose target is 1. -/
theorem term_one : classTerm r ((1 : ℝ) : EReal) = ((-(1 / 4) * (1 - r) ^ 2 * Real.log r : ℝ) : EReal) := by
  have hr : ¬ r ≤ 0 := not_le.mpr h0
  have hs : ¬ 1 - r ≤ 0 := by linarith
  have hc : Ideal.cmp .une ((1 : ℝ) : EReal) ((-1 : ℝ) : EReal) = 1#1 := by
    have : ¬ ((1 : ℝ) : EReal) = ((-1 : ℝ) : EReal) := by rw [EReal.coe_eq_coe_iff]; norm_num
    unfold Ideal.cmp; simp only [ne_eq, this, not_false_eq_true, decide_true]; rfl
  have hd : Ideal.cmp .oeq ((1 : ℝ) : EReal) ((1 : ℝ) : EReal) = 1#1 := by simp [Ideal.cmp]
  have hp : Real.rpow (1 - r) 2 = (1 - r) ^ 2 := Real.rpow_two (1 - r)
  unfold classTerm
  rw [minusone_val, one_val, quarter_val, threequarters_val, two_val, hc, hd, ← EReal.coe_sub, ← EReal.coe_sub, Ideal.log_coe,
    Ideal.log_coe, if_neg hr, if_neg hs]
  show _ * Ideal.pow ((1 - r : ℝ) : EReal) ((2 : ℝ) : EReal) * _ = _
  rw [Ideal.pow_coe_coe, hp]
  show ((1 / 4 : ℝ) : EReal) * _ * _ = _
  simp only [← EReal.coe_mul, ← EReal.coe_add, ← EReal.coe_neg]
  congr 1; ring

end Terms

/-- An anchor that is neither positive nor negative has no loss. -/
theorem term_ignored (y : EReal) : classTerm y (Ideal.ofBits .f32 0xBF800000#32) = 0 := by
  unfold classTerm
  simp [Ideal.cmp, Scalar.select, zero_val]

/-! ## Real numbers that lie near each other -/

/-- Both numbers are real, and they are at most `e` apart. -/
def Near (e : ℝ) (a b : EReal) : Prop := ∃ r s : ℝ, a = r ∧ b = s ∧ |r - s| ≤ e

/-- Real numbers that are 0 apart are equal. -/
theorem Near.eq {a b : EReal} (h : Near 0 a b) : a = b := by
  obtain ⟨r, s, rfl, rfl, h⟩ := h
  rw [sub_eq_zero.mp (abs_nonpos_iff.mp h)]

/-- A sum of reals, as an extended real. -/
theorem coe_sum {ι : Type} [DecidableEq ι] (f : ι → ℝ) (s : Finset ι) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- Sums of `n` terms that are at most `e` apart, one by one, are at most `n * e` apart. -/
theorem abs_sum_sub {n : ℕ} (f g : Fin n → ℝ) (e : ℝ) (h : ∀ i, |f i - g i| ≤ e) : |∑ i, f i - ∑ i, g i| ≤ n * e := by
  rw [← Finset.sum_sub_distrib]
  refine (Finset.abs_sum_le_sum_abs _ _).trans ((Finset.sum_le_sum fun i _ => h i).trans ?_)
  rw [Finset.sum_const, Finset.card_univ, Fintype.card_fin, nsmul_eq_mul]

/-- The same of extended reals that lie near each other. -/
theorem Near.sum {n : ℕ} {f g : Fin n → EReal} {e : ℝ} (h : ∀ i, Near e (f i) (g i)) : Near (n * e) (∑ i, f i) (∑ i, g i) := by
  choose r s hr hs he using h
  exact ⟨∑ i, r i, ∑ i, s i, by rw [coe_sum]; exact Finset.sum_congr rfl fun i _ => hr i,
    by rw [coe_sum]; exact Finset.sum_congr rfl fun i _ => hs i, abs_sum_sub r s e he⟩

/-- Multiplying both by a real number. -/
theorem Near.mul {a b : EReal} {e : ℝ} (h : Near e a b) (q : ℝ) (hq : 0 ≤ q) : Near (e * q) (a * (q : EReal)) (b * (q : EReal)) := by
  obtain ⟨r, s, rfl, rfl, h⟩ := h
  refine ⟨r * q, s * q, (EReal.coe_mul _ _).symm, (EReal.coe_mul _ _).symm, ?_⟩
  rw [← sub_mul, abs_mul, abs_of_nonneg hq]
  exact mul_le_mul_of_nonneg_right h hq

/-! ## Clipping -/

/-- The real number that the lower end of the clip is. -/
abbrev low : ℝ := 13743895 / 2 ^ 37

/-- The clip's lower end is not above its upper one. -/
theorem lo_le_hi : lo ≤ hi := by
  unfold lo hi; rw [lo_val, hi_val, EReal.coe_le_coe_iff]; norm_num

/-- The greater of two reals, as an extended real. -/
theorem coe_max (r s : ℝ) : ((max r s : ℝ) : EReal) = max (r : EReal) (s : EReal) := EReal.coe_strictMono.monotone.map_max

/-- Clipping from both sides is clipping from above and then from below. -/
theorem clip_eq (x : EReal) : clip x = max lo (min x hi) := by
  show min hi (max lo x) = _
  rw [min_max_distrib_left, min_eq_right lo_le_hi, min_comm]

/-- A score that is not negative, clipped from above, is a real number `s` from 0 to below 1; clipped from both sides it
    is the greater of `s` and the lower end. -/
theorem clipped (x : EReal) (hx : 0 ≤ x) : ∃ s : ℝ, 0 ≤ s ∧ s < 1 ∧ min x hi = s ∧ clip x = ((max low s : ℝ) : EReal)
    ∧ min hi (max lo (s : EReal)) = ((max low s : ℝ) : EReal) := by
  have h0 : (0 : EReal) ≤ hi := by
    unfold hi; rw [hi_val, ← EReal.coe_zero, EReal.coe_le_coe_iff]; norm_num
  have hm : 0 ≤ min x hi := le_min hx h0
  have hM : min x hi ≤ hi := min_le_right _ _
  have hc := clip_eq x
  generalize min x hi = y at hm hM hc
  have hb : y ≠ ⊥ := fun h => by
    rw [h] at hm; exact absurd hm (not_le.mpr EReal.bot_lt_zero)
  have ht : y ≠ ⊤ := fun h => by
    rw [h] at hM; unfold hi at hM; rw [hi_val] at hM; exact absurd hM (not_le.mpr (EReal.coe_lt_top _))
  lift y to ℝ using ⟨ht, hb⟩
  have hl : max lo (y : EReal) = ((max low y : ℝ) : EReal) := by
    unfold lo; rw [lo_val, coe_max]
  refine ⟨y, EReal.coe_nonneg.mp hm, ?_, rfl, hc.trans hl, ?_⟩
  · unfold hi at hM; rw [hi_val, EReal.coe_le_coe_iff] at hM
    exact lt_of_le_of_lt hM (by norm_num)
  · rw [min_eq_right (max_le lo_le_hi hM), hl]

/-- A score below 1, clipped from below, lies strictly between 0 and 1. -/
theorem low_clipped {s : ℝ} (h1 : s < 1) : 0 < max low s ∧ max low s < 1 :=
  ⟨lt_of_lt_of_le (by norm_num) (le_max_left _ _), max_lt (by norm_num) h1⟩

/-- The loss of a real score whose target is 0. -/
def zeroLoss (s : ℝ) : ℝ := -(3 / 4) * s ^ 2 * Real.log (1 - s)

/-- Below the clip's lower end that loss lies between 0 and 1e-12. -/
theorem zeroLoss_small {s : ℝ} (h0 : 0 ≤ s) (hs : s ≤ low) : 0 ≤ zeroLoss s ∧ zeroLoss s ≤ 1 / 10 ^ 12 := by
  have hs : s ≤ 1 / 10000 := hs.trans (by norm_num)
  have h1 : 0 < 1 - s := by linarith
  have hn : Real.log (1 - s) ≤ 0 := Real.log_nonpos h1.le (by linarith)
  have hb : -Real.log (1 - s) ≤ 101 / 100 * s := by
    have h := Real.one_sub_inv_le_log_of_pos h1
    have hi : (1 - s)⁻¹ ≤ 1 + 101 / 100 * s := by
      rw [inv_le_iff_one_le_mul₀ h1]
      nlinarith
    linarith
  have hq : s ^ 2 ≤ 1 / 10 ^ 8 := by nlinarith
  have hq0 : 0 ≤ s ^ 2 := sq_nonneg s
  have hm := mul_nonneg hq0 (neg_nonneg.mpr hn)
  have hM : s ^ 2 * -Real.log (1 - s) ≤ 1 / 10 ^ 8 * (101 / 100 * (1 / 10000)) :=
    mul_le_mul hq (by linarith) (by linarith) (by norm_num)
  unfold zeroLoss
  constructor <;> linarith

/-- Clipping a score from below changes that loss by at most 1e-12. -/
theorem zeroLoss_clip {s : ℝ} (h0 : 0 ≤ s) : |zeroLoss s - zeroLoss (max low s)| ≤ 1 / 10 ^ 12 := by
  rcases le_total low s with h | h
  · rw [max_eq_right h, sub_self, abs_zero]; norm_num
  · rw [max_eq_left h]
    have a := zeroLoss_small h0 h
    have b := zeroLoss_small (show (0 : ℝ) ≤ low by norm_num) le_rfl
    exact abs_sub_le_iff.mpr ⟨(sub_le_self _ b.1).trans a.2, (sub_le_self _ a.1).trans b.2⟩

/-! ## The two losses of one anchor -/

/-- The kernel's loss of an anchor of real scores all of whose targets are zero. -/
theorem baseLoss_eq (x : Fin 80 → EReal) (s : Fin 80 → ℝ) (h1 : ∀ c, s c < 1) (hx : ∀ c, min (x c) hi = s c) :
    baseLoss x = ((∑ c, zeroLoss (s c) : ℝ) : EReal) := by
  have hl : Real.log 2 ≠ 0 := (Real.log_pos (by norm_num)).ne'
  unfold baseLoss scoreSum
  have ht (c : Fin 80) : (min (x c) hi * min (x c) hi * (Ideal.log (1 - min (x c) hi)
      * (Named.named Cert.KernelIdeal.κ "inv_ln2" 0x3FB8AA3B#32 : Ideal .f32)) : EReal)
      = ((s c * s c * (Real.log (1 - s c) * (Real.log 2)⁻¹) : ℝ) : EReal) := by
    have hs : ¬ 1 - s c ≤ 0 := by have := h1 c; linarith
    rw [hx, inv_ln2_val, ← EReal.coe_one, ← EReal.coe_sub, Ideal.log_coe, if_neg hs, ← EReal.coe_mul, ← EReal.coe_mul, ← EReal.coe_mul]
  rw [Finset.sum_congr rfl fun c _ => ht c, ← coe_sum, base_scale_val]
  erw [← EReal.coe_mul]
  rw [Finset.sum_mul]
  refine congrArg Real.toEReal (Finset.sum_congr rfl fun c _ => ?_)
  unfold zeroLoss
  field_simp

/-- If clipping from below changes no score's loss by more than `e`, the kernel's loss of an anchor and the reference's
    are at most `80 * e` apart. -/
theorem anchor_near (x : Fin 80 → EReal) (hx : ∀ c, 0 ≤ x c) (e : ℝ) (he : 0 ≤ e)
    (hg : ∀ c (s : ℝ), 0 ≤ s → min (x c) hi = s → |zeroLoss s - zeroLoss (max low s)| ≤ e)
    (lab : BitVec 32) (k : Fin 80) (hk : lab = BitVec.ofNat 32 k.val) (p n : BitVec 1) :
    Near (80 * e) (anchorLoss p n (baseLoss x) (picked x lab)) (∑ c, classTerm (clip (x c)) (targetValue p n lab c)) := by
  choose s hs0 hs1 hm hc hmm using fun c => clipped (x c) (hx c)
  have h0 (c : Fin 80) := (low_clipped (hs1 c)).1
  have h1 (c : Fin 80) := (low_clipped (hs1 c)).2
  have hd : |∑ c, zeroLoss (s c) - ∑ c, zeroLoss (max low (s c))| ≤ 80 * e := by
    have := abs_sum_sub _ _ e fun c => hg c (s c) (hs0 c) (hm c)
    exact_mod_cast this
  have hind (c : Fin 80) : IntOp.cmpi .eq (BitVec.ofNat 32 c.val) lab = if c = k then 1#1 else 0#1 := by
    subst hk
    by_cases h : c = k
    · subst h; simp [IntOp.cmpi]
    · have : BitVec.ofNat 32 c.val ≠ BitVec.ofNat 32 k.val := fun he => h (Fin.ext (by
        have := congrArg BitVec.toNat he
        have hc := c.isLt
        have hk := k.isLt
        rw [BitVec.toNat_ofNat, BitVec.toNat_ofNat, Nat.mod_eq_of_lt (by omega), Nat.mod_eq_of_lt (by omega)] at this
        exact this))
      simp [IntOp.cmpi, beq_eq_false_iff_ne.2 this, h]
  have hind' (c : Fin 80) : IntOp.cmpi .eq lab (BitVec.ofNat 32 c.val) = if c = k then 1#1 else 0#1 := by
    rw [← hind]; unfold IntOp.cmpi; exact congrArg BitVec.ofBool (Bool.beq_comm)
  have hy : picked x lab = ((max low (s k) : ℝ) : EReal) := by
    unfold picked
    have : (∑ c : Fin 80, Scalar.select (IntOp.cmpi .eq (BitVec.ofNat 32 c.val) lab) (min (x c) hi) 0) = (s k : EReal) := by
      rw [Finset.sum_eq_single k]
      · rw [hind, if_pos rfl, hm]; rfl
      · intro c _ hck; rw [hind, if_neg hck]; rfl
      · intro h; exact absurd (Finset.mem_univ k) h
    rw [this, hmm]
  have hbase := baseLoss_eq x s hs1 hm
  have hzero : (∑ c, classTerm (clip (x c)) ((0 : ℝ) : EReal)) = ((∑ c, zeroLoss (max low (s c)) : ℝ) : EReal) := by
    rw [coe_sum]
    exact Finset.sum_congr rfl fun c _ => by rw [hc, term_zero (h0 c) (h1 c)]; rfl
  unfold anchorLoss targetValue
  rw [hy]
  rcases (show p = 1#1 ∨ p = 0#1 by revert p; decide) with rfl | rfl
  · -- a positive anchor: the label's term is replaced, by the same two numbers on both sides
    generalize hr : (fun c => max low (s c)) = r at *
    have hrc (c : Fin 80) : max low (s c) = r c := congrFun hr c
    simp only [hrc] at h0 h1 hd hc ⊢
    have ht (c : Fin 80) : classTerm (clip (x c)) (bit (IntOp.cmpi .eq lab (BitVec.ofNat 32 c.val)))
        = ((zeroLoss (r c)
          + if c = k then 3 / 4 * r k ^ 2 * Real.log (1 - r k) - 1 / 4 * (1 - r k) ^ 2 * Real.log (r k) else 0 : ℝ) : EReal) := by
      rw [hind', hc]
      unfold zeroLoss
      by_cases h : c = k
      · subst h
        rw [if_pos rfl, if_pos rfl, show bit 1#1 = ((1 : ℝ) : EReal) by simp [bit], term_one (h0 c) (h1 c)]
        congr 1; ring
      · rw [if_neg h, if_neg h, show bit 0#1 = ((0 : ℝ) : EReal) by simp [bit], term_zero (h0 c) (h1 c), add_zero]
    have hr : ¬ r k ≤ 0 := not_le.mpr (h0 k)
    have hs : ¬ 1 - r k ≤ 0 := by have := h1 k; linarith
    refine ⟨∑ c, zeroLoss (s c) + (3 / 4 * r k ^ 2 * Real.log (1 - r k) - 1 / 4 * (1 - r k) ^ 2 * Real.log (r k)),
      ∑ c, zeroLoss (r c) + (3 / 4 * r k ^ 2 * Real.log (1 - r k) - 1 / 4 * (1 - r k) ^ 2 * Real.log (r k)), ?_, ?_, ?_⟩
    · show baseLoss x - _ * _ * _ * (0 - Ideal.log (1 - (r k : EReal))) + _ * (1 - (r k : EReal)) * (1 - (r k : EReal)) * (0 - Ideal.log (r k : EReal)) = _
      rw [hbase, quarter_val, threequarters_val, ← EReal.coe_one, ← EReal.coe_zero, ← EReal.coe_sub, Ideal.log_coe, Ideal.log_coe,
        if_neg hr, if_neg hs]
      simp only [← EReal.coe_sub, ← EReal.coe_mul, ← EReal.coe_add]
      congr 1; ring
    · show ∑ c, classTerm (clip (x c)) (bit (IntOp.cmpi .eq lab (BitVec.ofNat 32 c.val))) = _
      rw [Finset.sum_congr rfl fun c _ => ht c, ← coe_sum, Finset.sum_add_distrib, Finset.sum_ite_eq' Finset.univ k,
        if_pos (Finset.mem_univ k)]
    · rwa [add_sub_add_right_eq_sub]
  · rcases (show n = 1#1 ∨ n = 0#1 by revert n; decide) with rfl | rfl
    · exact ⟨_, _, hbase, hzero, hd⟩
    · exact ⟨0, 0, rfl, Finset.sum_eq_zero fun c _ => term_ignored _, by simpa using he⟩

end Cert.FocalLoss

end

end
-- ==== Proof.KernelGeometry.lean ====
/-
  What one grid point of the kernel computes from the boxes: for each anchor (row `s`, lane `l` of the eight rows of
  2500 lanes), the overlaps with the image's annotated boxes, the first best of them, whether the anchor is positive or
  negative, and how many anchors are positive.
-/
module

public import proofs.«01_k».proof.Proof.Gen.KernelIdeal.Skeleton
public import proofs.«01_k».proof.Proof.Loss

@[expose] public section

noncomputable section

open Idealize.ShloMosaic

namespace Cert.KernelIdeal.Value

open Cert.KernelIdeal Cert.KernelIdeal.Gen Cert.FocalLoss

/-- Row `j` of a table of eight rows, taken as the sum over the rows with every other row replaced by zero. -/
theorem sum_select_row (j : Fin 8) (f : Fin 8 → EReal) :
    (∑ x : Fin 8, Scalar.select (IntOp.cmpi .eq (BitVec.ofNat 32 x.val) (BitVec.ofNat 32 j.val)) (f x) 0) = f j := by
  rw [Finset.sum_eq_single j]
  · simp [IntOp.cmpi, Scalar.select]
  · intro x _ hx
    have : ¬ (BitVec.ofNat 32 x.val = BitVec.ofNat 32 j.val) := fun h => hx (Fin.ext (by
      have h' := congrArg BitVec.toNat h
      have hx := x.isLt
      have hj := j.isLt
      simp only [BitVec.toNat_ofNat] at h'
      omega))
    simp [IntOp.cmpi, Scalar.select, beq_eq_false_iff_ne.2 this]
  · intro h; exact absurd (Finset.mem_univ j) h

/-- The image's annotations: coordinate `k` of annotation `m`. -/
theorem ann_apply (i : grid0.Coords) (v : Vec Ideal S5x8x32 .f32) (m : Fin 32) (k : Fin 5) :
    k0_pay10 i v (ix2 m k) = v (ix3 k (i 0) m) := by
  unfold k0_pay10
  pointwise
  exact sum_select_row (i 0) fun x => v (ix3 k x m)

/-- The image's ignored regions: coordinate `k` of region `m`. -/
theorem ign_apply (i : grid0.Coords) (v : Vec Ideal S5x8x8 .f32) (m : Fin 8) (k : Fin 5) :
    k0_pay21 (F := Ideal) (BitVec.ofNat 32 (i 0).val) v (ix2 m k) = v (ix3 k (i 0) m) := by
  unfold k0_pay21
  pointwise
  exact sum_select_row (i 0) fun x => v (ix3 k x m)

/-- The four corners' coordinates of the anchor at `j`, read off the four coordinate planes. -/
def anchorAt (v0 v2 v4 v6 : Vec Ideal S1x1x8x2500 .f32) (j : S8x2500.Idx) : Fin 4 → EReal :=
  ![v0 (ix4 0 0 (j 0) (j 1)), v2 (ix4 0 0 (j 0) (j 1)), v4 (ix4 0 0 (j 0) (j 1)), v6 (ix4 0 0 (j 0) (j 1))]

/-- The corners of annotation `m` of the image. -/
def annAt (i : grid0.Coords) (v : Vec Ideal S5x8x32 .f32) (m : Fin 32) : Fin 4 → EReal :=
  fun k => v (ix3 k.castSucc (i 0) m)

/-- The corners of ignored region `m` of the image. -/
def ignAt (i : grid0.Coords) (v : Vec Ideal S5x8x8 .f32) (m : Fin 8) : Fin 4 → EReal :=
  fun k => v (ix3 k.castSucc (i 0) m)

section Planes

variable (i : grid0.Coords) (v0 v2 v4 v6 : Vec Ideal S1x1x8x2500 .f32) (v11 : Vec Ideal S5x8x32 .f32) (v75 : Vec Ideal S5x8x8 .f32)

/-- The overlap of the anchor at `(s, l)` with annotation `m`. -/
theorem iou_apply (s : Fin 8) (l : Fin 2500) (m : Fin 32) :
    k0_pay17 (k0_pay4 v2) (k0_pay6 v6) (k0_pay9 v0 v2 v4 v6) (k0_pay11 i v11) (k0_pay12 i v11) (k0_pay13 i v11)
        (k0_pay14 i v11) (k0_pay15 i v4 v11) (k0_pay16 v0) (ix3 m s l)
      = iou (anchorAt v0 v2 v4 v6 (ix2 s l)) (annAt i v11 m) := by
  unfold k0_pay17 k0_pay16 k0_pay15 k0_pay14 k0_pay13 k0_pay12 k0_pay11 k0_pay9 k0_pay8 k0_pay7 k0_pay6 k0_pay3 k0_pay4 k0_pay5
  pointwise
  simp only [ann_apply]
  rfl

/-- The best overlap of the anchor at `(s, l)`. -/
theorem best_apply (s : Fin 8) (l : Fin 2500) :
    k0_pay20 (k0_pay4 v2) (k0_pay6 v6) (k0_pay9 v0 v2 v4 v6) (k0_pay11 i v11) (k0_pay12 i v11) (k0_pay13 i v11)
        (k0_pay14 i v11) (k0_pay15 i v4 v11) (k0_pay16 v0) (ix2 s l)
      = best fun m => iou (anchorAt v0 v2 v4 v6 (ix2 s l)) (annAt i v11 m) := by
  unfold k0_pay20 k0_pay18
  pointwise
  simp only [iou_apply]
  rfl

/-- The signed minimum of a word with every word of a finite family is that word when it is with each. -/
theorem minsi_fold {ι : Type} [DecidableEq ι] (w b : BitVec 32) (g : ι → BitVec 32) (hb : IntOp.minsi w b = w) (s : Finset ι)
    (hs : ∀ x ∈ s, IntOp.minsi w (g x) = w) : IntOp.minsi w (s.fold IntOp.minsi b g) = w := by
  induction s using Finset.induction_on with
  | empty => simpa using hb
  | insert x s hx ih =>
    rw [Finset.fold_insert hx, ← Std.Associative.assoc (op := IntOp.minsi (w := 32)), hs x (Finset.mem_insert_self _ _)]
    exact ih fun y hy => hs y (Finset.mem_insert_of_mem hy)

/-- The signed minimum of two index words is the lesser index's; with 32, or with the greatest word, it is the index's. -/
theorem minsi_ofNat : ∀ a b : Fin 32, a ≤ b → IntOp.minsi (BitVec.ofNat 32 a.val) (BitVec.ofNat 32 b.val) = BitVec.ofNat 32 a.val := by
  decide +kernel

theorem minsi_bound : ∀ a : Fin 32, IntOp.minsi (BitVec.ofNat 32 a.val) 32#32 = BitVec.ofNat 32 a.val
    ∧ IntOp.minsi (BitVec.ofNat 32 a.val) 2147483647#32 = BitVec.ofNat 32 a.val := by
  decide +kernel

/-- The least position among those that reach the best is the first best. -/
theorem fold_firstBest (f : Fin 32 → EReal) :
    Finset.univ.fold IntOp.minsi 2147483647#32 (fun m : Fin 32 => if f m = best f then BitVec.ofNat 32 m.val else 32#32)
      = BitVec.ofNat 32 (firstBest f).val := by
  rw [← Finset.insert_erase (Finset.mem_univ (firstBest f)), Finset.fold_insert (Finset.notMem_erase _ _),
    if_pos (firstBest_spec f)]
  refine minsi_fold _ _ _ (minsi_bound _).2 _ fun x _ => ?_
  by_cases h : f x = best f
  · rw [if_pos h]; exact minsi_ofNat _ _ (firstBest_le f x h)
  · rw [if_neg h]; exact (minsi_bound _).1

/-- The position of the annotation each anchor is assigned to. -/
theorem target_eq :
    k0_pay19 (k0_pay4 v2) (k0_pay6 v6) (k0_pay9 v0 v2 v4 v6) (k0_pay11 i v11) (k0_pay12 i v11) (k0_pay13 i v11)
        (k0_pay14 i v11) (k0_pay15 i v4 v11) (k0_pay16 v0)
      = fun j => BitVec.ofNat 32 (target (anchorAt v0 v2 v4 v6 j) (annAt i v11)).val := by
  funext j
  obtain ⟨s, l, rfl⟩ : ∃ s l, j = ix2 s l := ⟨j 0, j 1, by ext a; fin_cases a <;> rfl⟩
  unfold k0_pay19 k0_pay18
  pointwise
  simp only [iou_apply]
  exact fold_firstBest _

/-- Whether each anchor is kept. -/
theorem keep_eq :
    k0_pay23 (k0_pay3 v0) (k0_pay4 v2) (k0_pay5 v4) (k0_pay6 v6) (k0_pay9 v0 v2 v4 v6)
        (k0_pay21 (BitVec.ofNat 32 (i 0).val) v75) (k0_pay22 (BitVec.ofNat 32 (i 0).val) v75)
      = fun j => keepBit (anchorAt v0 v2 v4 v6 j) (ignAt i v75) := by
  funext j
  obtain ⟨s, l, rfl⟩ : ∃ s l, j = ix2 s l := ⟨j 0, j 1, by ext a; fin_cases a <;> rfl⟩
  unfold k0_pay23 k0_pay22 k0_pay9 k0_pay8 k0_pay7 k0_pay6 k0_pay3 k0_pay4 k0_pay5
  pointwise
  simp only [ign_apply]
  rfl

/-- Whether each anchor is positive. -/
theorem pos_eq :
    k0_pay24 (k0_pay3 v0) (k0_pay4 v2) (k0_pay5 v4) (k0_pay6 v6) (k0_pay9 v0 v2 v4 v6)
        (k0_pay20 (k0_pay4 v2) (k0_pay6 v6) (k0_pay9 v0 v2 v4 v6) (k0_pay11 i v11) (k0_pay12 i v11) (k0_pay13 i v11)
          (k0_pay14 i v11) (k0_pay15 i v4 v11) (k0_pay16 v0))
        (k0_pay21 (BitVec.ofNat 32 (i 0).val) v75) (k0_pay22 (BitVec.ofNat 32 (i 0).val) v75)
      = fun j => posBit (anchorAt v0 v2 v4 v6 j) (annAt i v11) (ignAt i v75) := by
  unfold k0_pay24
  rw [keep_eq]
  funext j
  obtain ⟨s, l, rfl⟩ : ∃ s l, j = ix2 s l := ⟨j 0, j 1, by ext a; fin_cases a <;> rfl⟩
  pointwise
  simp only [best_apply]
  rfl

/-- Whether each anchor is negative. -/
theorem neg_eq :
    k0_pay25 (k0_pay3 v0) (k0_pay4 v2) (k0_pay5 v4) (k0_pay6 v6) (k0_pay9 v0 v2 v4 v6)
        (k0_pay20 (k0_pay4 v2) (k0_pay6 v6) (k0_pay9 v0 v2 v4 v6) (k0_pay11 i v11) (k0_pay12 i v11) (k0_pay13 i v11)
          (k0_pay14 i v11) (k0_pay15 i v4 v11) (k0_pay16 v0))
        (k0_pay21 (BitVec.ofNat 32 (i 0).val) v75) (k0_pay22 (BitVec.ofNat 32 (i 0).val) v75)
      = fun j => negBit (anchorAt v0 v2 v4 v6 j) (annAt i v11) (ignAt i v75) := by
  unfold k0_pay25
  rw [keep_eq]
  funext j
  obtain ⟨s, l, rfl⟩ : ∃ s l, j = ix2 s l := ⟨j 0, j 1, by ext a; fin_cases a <;> rfl⟩
  pointwise
  simp only [best_apply]
  rfl

end Planes

/-- A bit widened to a word and read as a number. -/
theorem sitofp_bit : ∀ b : BitVec 1, FloatOps.sitofp (F := Ideal) .f32 (BitVec.setWidth 32 b) = bit b := by
  intro b
  have h : (BitVec.setWidth 32 b).toInt = (b.toNat : ℤ) := by revert b; decide
  show (((BitVec.setWidth 32 b).toInt : ℝ) : EReal) = ((b.toNat : ℝ) : EReal)
  rw [h]; norm_cast

/-- The bits as numbers. -/
theorem posf_apply (p : IVec S8x2500 1) (s : Fin 8) (l : Fin 2500) :
    k0_pay27 (F := Ideal) (extui 32 p natLt_1_32) (ix2 s l) = bit (p (ix2 s l)) := by
  unfold k0_pay27
  pointwise
  exact sitofp_bit _

/-- How many of the bits are set. -/
theorem count_eq (p : IVec S8x2500 1) :
    k0_pay28 (F := Ideal) (extui 32 p natLt_1_32) = ∑ s : Fin 8, ∑ l : Fin 2500, bit (p (ix2 s l)) := by
  unfold k0_pay28
  pointwise
  exact Finset.sum_congr rfl fun s _ => Finset.sum_congr rfl fun l _ => posf_apply p s l

end Cert.KernelIdeal.Value

end

end
-- ==== Proof.KernelBox.lean ====
/-
  What one grid point of the kernel adds to the two running totals: an eighth of the image's class loss over the number
  of positive anchors, and an eighth of the box losses of the positive anchors over four times that number.
-/
module

public import proofs.«01_k».proof.Proof.KernelGeometry

@[expose] public section

noncomputable section

open Idealize.ShloMosaic

namespace Cert.KernelIdeal.Value

open Cert.KernelIdeal Cert.KernelIdeal.Gen Cert.FocalLoss

/-- One box coordinate's smoothed error as the kernel forms it. -/
def smoothErr (d : EReal) : EReal :=
  if d ≤ Ideal.ofBits .f32 0x3DE38E39#32 then Ideal.ofBits .f32 0x40900000#32 * d * d
  else d - Ideal.ofBits .f32 0x3D638E39#32

/-- One anchor's box loss as the kernel forms it. -/
def boxErr (a b r : Fin 4 → EReal) : EReal :=
  smoothErr (offsetErr a b r 0) + smoothErr (offsetErr a b r 1) + smoothErr (offsetErr a b r 2) + smoothErr (offsetErr a b r 3)

section Box

variable (v0 v2 v4 v6 r0 r1 r2 r3 : Vec Ideal S1x1x8x2500 .f32) (B : S8x2500.Idx → Fin 4 → EReal)

/-- The first three of an anchor's four smoothed errors. -/
theorem threeErr_apply (s : Fin 8) (l : Fin 2500) :
    k0_pay179 (F := Ideal)
        (k0_pay173 (k0_pay3 v0) (k0_pay7 v0 v4) (fun j => B j 0) (fun j => B j 2))
        (k0_pay174 (k0_pay4 v2) (k0_pay8 v2 v6) (fun j => B j 1) (fun j => B j 3))
        (k0_pay175 (k0_pay7 v0 v4) (fun j => B j 0) (fun j => B j 2)) r0 r1 r2 (ix2 s l)
      = smoothErr (offsetErr (anchorAt v0 v2 v4 v6 (ix2 s l)) (B (ix2 s l)) (anchorAt r0 r1 r2 r3 (ix2 s l)) 0)
        + smoothErr (offsetErr (anchorAt v0 v2 v4 v6 (ix2 s l)) (B (ix2 s l)) (anchorAt r0 r1 r2 r3 (ix2 s l)) 1)
        + smoothErr (offsetErr (anchorAt v0 v2 v4 v6 (ix2 s l)) (B (ix2 s l)) (anchorAt r0 r1 r2 r3 (ix2 s l)) 2) := by
  unfold k0_pay179 k0_pay173 k0_pay174 k0_pay175 k0_pay171 k0_pay172 k0_pay7 k0_pay8 k0_pay3 k0_pay4 k0_pay5 k0_pay6
  pointwise
  rfl

/-- The fourth offset. -/
theorem lastOffset_apply (s : Fin 8) (l : Fin 2500) :
    k0_pay178 (F := Ideal) (k0_pay176 (k0_pay8 v2 v6) (fun j => B j 1) (fun j => B j 3)) k0_pay177 (ix2 s l)
      = offset (anchorAt v0 v2 v4 v6 (ix2 s l)) (B (ix2 s l)) 3 := by
  unfold k0_pay178 k0_pay177 k0_pay176 k0_pay172 k0_pay8 k0_pay4 k0_pay6
  pointwise
  rfl

end Box

/-- The two totals of one image: `t` the class loss, `w` the anchors' box losses, `p` whether an anchor is positive. -/
def imageTotal (np t bx : EReal) : Fin 2 → EReal :=
  ![Ideal.div t (max np 1) * Ideal.ofBits .f32 0x3E000000#32,
    Ideal.div bx (max (np * Ideal.ofBits .f32 0x40800000#32) 1) * Ideal.ofBits .f32 0x3E000000#32]

/-- What the grid point adds at row `a`, lane 0 of its block. -/
theorem totals_apply (v0 v2 v4 v6 r0 r1 r2 r3 : Vec Ideal S1x1x8x2500 .f32) (B : S8x2500.Idx → Fin 4 → EReal)
    (pf : FVec Ideal S8x2500 .f32) (np t : EReal) (a : Fin 2) :
    k0_pay180 (F := Ideal) pf np t
        (k0_pay178 (k0_pay176 (k0_pay8 v2 v6) (fun j => B j 1) (fun j => B j 3)) k0_pay177)
        (k0_pay179
          (k0_pay173 (k0_pay3 v0) (k0_pay7 v0 v4) (fun j => B j 0) (fun j => B j 2))
          (k0_pay174 (k0_pay4 v2) (k0_pay8 v2 v6) (fun j => B j 1) (fun j => B j 3))
          (k0_pay175 (k0_pay7 v0 v4) (fun j => B j 0) (fun j => B j 2)) r0 r1 r2) r3 (ix2 a 0)
      = imageTotal np t (∑ s : Fin 8, ∑ l : Fin 2500,
          boxErr (anchorAt v0 v2 v4 v6 (ix2 s l)) (B (ix2 s l)) (anchorAt r0 r1 r2 r3 (ix2 s l)) * pf (ix2 s l)) a := by
  generalize hu : k0_pay179 (F := Ideal) _ _ _ _ _ _ = u
  generalize hw : k0_pay178 (F := Ideal) _ _ = w
  have h := fun s l => (congrFun hu (ix2 s l)).symm.trans (threeErr_apply v0 v2 v4 v6 r0 r1 r2 r3 B s l)
  have h' := fun s l => (congrFun hw (ix2 s l)).symm.trans (lastOffset_apply v0 v2 v4 v6 B s l)
  clear hu hw
  have hsum : (∑ s : Fin 8, ∑ l : Fin 2500,
      (u (ix2 s l) + smoothErr (max (w (ix2 s l) - r3 (ix4 0 0 s l)) (-(w (ix2 s l) - r3 (ix4 0 0 s l))))) * pf (ix2 s l))
      = ∑ s : Fin 8, ∑ l : Fin 2500,
          boxErr (anchorAt v0 v2 v4 v6 (ix2 s l)) (B (ix2 s l)) (anchorAt r0 r1 r2 r3 (ix2 s l)) * pf (ix2 s l) := by
    refine Finset.sum_congr rfl fun s _ => Finset.sum_congr rfl fun l _ => ?_
    rw [h, h']
    rfl
  rw [← hsum]
  unfold k0_pay180
  fin_cases a
  · pointwise
    simp [imageTotal, IntOp.cmpi, IntOp.andi, Scalar.select]
  · pointwise
    simp [imageTotal, IntOp.cmpi, IntOp.andi, Scalar.select]
    rfl

/-- What the grid point leaves at row `a`, lane 0, from what lay there. -/
theorem accumulate_apply (v : FVec Ideal S2x128 .f32) (o : Vec Ideal S1x2x128 .f32) (a : Fin 2) (l : Fin 128) :
    k0_pay2 v o (ix3 0 a l) = o (ix3 0 a l) + v (ix2 a l) := by
  unfold k0_pay2
  pointwise

end Cert.KernelIdeal.Value

end

end
-- ==== Proof.KernelPoint.lean ====
/-
  What one grid point of the kernel leaves in its block: what lay there (zero at the first point) plus the image's two
  totals, in closed form over the blocks the point reads.
-/
module

public import proofs.«01_k».proof.Proof.Gen.KernelIdeal.Frame
public import proofs.«01_k».proof.Proof.KernelBox
public import proofs.«01_k».proof.Proof.KernelClass
public import Idealize.ShloMosaic.Lib.Pipeline.Value
public import Idealize.ShloMosaic.Lib.Tactic
public import Idealize.ShloMosaic.Lib.UnfoldOut

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.FocalLoss

/-! ## Looking a table of thirty-two entries up by comparing the position with each place in turn -/

section Lookup

variable {α : Type} {T : S8x2500.Idx → Fin 32} {e : Fin 32 → α}

/-- `v` is right wherever the position looked up is below `n`. -/
def Upto (n : ℕ) (T : S8x2500.Idx → Fin 32) (e : Fin 32 → α) (v : S8x2500.Idx → α) : Prop :=
  ∀ j, (T j).val < n → v j = e (T j)

/-- Before the selects the array holds the first annotation everywhere. -/
theorem upto_one {c : α} (h : c = e 0) : Upto 1 T e (broadcast S8x2500 c) := fun j hj => by
  have : T j = 0 := Fin.ext (by simpa using hj)
  rw [this]; exact h

/-- One more comparison extends the lookup by one place. -/
theorem upto_step (n : ℕ) (hn : n < 32) {v : S8x2500.Idx → α} {c : α} (hv : Upto n T e v) (hc : c = e ⟨n, hn⟩) :
    Upto (n + 1) T e (select (cmpi .eq (fun j => BitVec.ofNat 32 (T j).val) (broadcast S8x2500 (BitVec.ofNat 32 n)))
      (broadcast S8x2500 c) v) := fun j hj => by
  show Scalar.select (IntOp.cmpi .eq (BitVec.ofNat 32 (T j).val) (BitVec.ofNat 32 n)) c (v j) = _
  by_cases h : (T j).val = n
  · have : T j = ⟨n, hn⟩ := Fin.ext h
    rw [this]
    simp [IntOp.cmpi, Scalar.select, hc]
  · have hne : ¬ (BitVec.ofNat 32 (T j).val = BitVec.ofNat 32 n) := fun hh => h (by
      have h' := congrArg BitVec.toNat hh
      have := (T j).isLt
      simp only [BitVec.toNat_ofNat] at h'
      omega)
    simp only [IntOp.cmpi, Scalar.select, beq_eq_false_iff_ne.2 hne]
    exact hv j (by omega)

/-- After all of them it holds the assigned annotation. -/
theorem upto_all {v : S8x2500.Idx → α} (h : Upto 32 T e v) : v = fun j => e (T j) :=
  funext fun j => h j (T j).isLt

end Lookup

/-! ## The blocks a point reads -/

/-- The four coordinates of the entry at `j` of a block of four planes. -/
def planes (x : Vec Ideal S1x4x8x2500 .f32) (j : S8x2500.Idx) : Fin 4 → EReal := fun k => x (ix4 0 k (j 0) (j 1))

/-- The label and the corners of annotation `m`, from the tables of scalars. -/
def labelOf (x : Vec Ideal S1x1x32 .i32) (m : Fin 32) : BitVec 32 := x (ix3 0 0 m)
def cornersOf (x : Vec Ideal S1x32x4 .f32) (m : Fin 32) : Fin 4 → EReal := fun k => x (ix3 0 m k)

/-- A label and a corner read out of the scalar memory. -/
theorem ld_label (x : Vec Ideal S1x1x32 .i32) (m : ℕ) (hm : m < 32) (h) (j) :
    View.ld x (Rect.unit ![0, 0, m] ![1, 1, 1] h) j = labelOf x ⟨m, hm⟩ := by
  unfold View.ld labelOf
  congr 1
  funext a
  apply Fin.ext
  have hj := (j a).isLt
  fin_cases a <;> simp at hj ⊢ <;> omega

theorem ld_corner (x : Vec Ideal S1x32x4 .f32) (m k : ℕ) (hm : m < 32) (hk : k < 4) (h) (j) :
    View.ld x (Rect.unit ![0, m, k] ![1, 1, 1] h) j = cornersOf x ⟨m, hm⟩ ⟨k, hk⟩ := by
  unfold View.ld cornersOf
  congr 1
  funext a
  apply Fin.ext
  have hj := (j a).isLt
  fin_cases a <;> simp at hj ⊢ <;> omega

/-- An anchor's four corners, read out of the four planes. -/
theorem anchorAt_ld (x : Vec Ideal S1x4x8x2500 .f32) (h0 h1 h2 h3) (j : S8x2500.Idx) :
    anchorAt (View.ld x (Rect.unit ![0, 0, 0, 0] ![1, 1, 8, 2500] h0)) (View.ld x (Rect.unit ![0, 1, 0, 0] ![1, 1, 8, 2500] h1))
      (View.ld x (Rect.unit ![0, 2, 0, 0] ![1, 1, 8, 2500] h2)) (View.ld x (Rect.unit ![0, 3, 0, 0] ![1, 1, 8, 2500] h3)) j
      = planes x j := by
  funext k
  unfold View.ld planes
  fin_cases k <;> refine congrArg x (funext fun a => Fin.ext ?_) <;> fin_cases a <;> simp

/-! ## The image's totals -/

section Point

variable (i : grid0.Coords) (x0 : Vec Ideal S1x80x20000 .f32) (x1 x2 : Vec Ideal S1x4x8x2500 .f32) (x3 : Vec Ideal S5x8x32 .f32)
  (x4 : Vec Ideal S5x8x8 .f32) (x5 : Vec Ideal S1x1x32 .i32) (x6 : Vec Ideal S1x32x4 .f32)

/-- The annotation each anchor is assigned to, whether it is positive, whether it is negative. -/
def targetAt (j : S8x2500.Idx) : Fin 32 := target (planes x2 j) (annAt i x3)
def posAt (j : S8x2500.Idx) : BitVec 1 := posBit (planes x2 j) (annAt i x3) (ignAt i x4)
def negAt (j : S8x2500.Idx) : BitVec 1 := negBit (planes x2 j) (annAt i x3) (ignAt i x4)

/-- What the point adds at row `a`, lane 0. -/
def pointTotal : Fin 2 → EReal :=
  imageTotal (∑ s : Fin 8, ∑ l : Fin 2500, bit (posAt i x2 x3 x4 (ix2 s l)))
    (∑ s : Fin 8, ∑ l : Fin 2500, anchorLoss (posAt i x2 x3 x4 (ix2 s l)) (negAt i x2 x3 x4 (ix2 s l))
      (baseLoss (scoresAt x0 (flat s l))) (picked (scoresAt x0 (flat s l)) (labelOf x5 (targetAt i x2 x3 (ix2 s l)))))
    (∑ s : Fin 8, ∑ l : Fin 2500, boxErr (planes x2 (ix2 s l)) (cornersOf x6 (targetAt i x2 x3 (ix2 s l)))
      (planes x1 (ix2 s l)) * bit (posAt i x2 x3 x4 (ix2 s l)))

/-- The base index of a whole block. -/
theorem hz : (![0, 0, 0] : Fin 3 → Nat) = fun _ => 0 := funext fun a => by fin_cases a <;> rfl

set_option maxHeartbeats 4000000 in
set_option maxRecDepth 16384 in
/-- The block after one point, at row `a`, lane 0: at the first point the totals alone, at every other what lay there and
    the totals. -/
theorem out_apply (c : Dev nD) (arg1 : Memref sig .tc .vmem S1x80x20000 .f32) (harg1 : arg1.IsWhole) (arg2 : Memref sig .tc .vmem S1x4x8x2500 .f32) (harg2 : arg2.IsWhole)
    (arg3 : Memref sig .tc .vmem S1x4x8x2500 .f32) (harg3 : arg3.IsWhole) (arg4 : Memref sig .tc .vmem S5x8x32 .f32) (harg4 : arg4.IsWhole)
    (arg5 : Memref sig .tc .vmem S5x8x8 .f32) (harg5 : arg5.IsWhole) (arg6 : Memref sig .tc .smem S1x1x32 .i32) (harg6 : arg6.IsWhole)
    (arg7 : Memref sig .tc .smem S1x32x4 .f32) (harg7 : arg7.IsWhole) (arg8 : Memref sig .tc .vmem S1x2x128 .f32) (harg8 : arg8.IsWhole)
    (xo : Vec Ideal S1x2x128 .f32) (a : Fin 2) :
    (∀ hc : cond0_0 i, out0_A_7 c i arg1 harg1 arg2 harg2 arg3 harg3 arg4 harg4 arg5 harg5 arg6 harg6 arg7 harg7 arg8 harg8 hc x0 x1 x2 x3 x4 x5 x6 (ix3 0 a 0) = 0 + pointTotal i x0 x1 x2 x3 x4 x5 x6 a)
    ∧ (∀ hc : ¬ cond0_0 i, out0_B_7 c i arg1 harg1 arg2 harg2 arg3 harg3 arg4 harg4 arg5 harg5 arg6 harg6 arg7 harg7 arg8 harg8 hc x0 x1 x2 x3 x4 x5 x6 xo (ix3 0 a 0)
        = xo (ix3 0 a 0) + pointTotal i x0 x1 x2 x3 x4 x5 x6 a) := by
  have h1 : (k0_pay1 (F := Ideal)) (ix3 0 a 0) = 0 := by unfold k0_pay1; pointwise
  constructor <;> intro hc
  on_goal 1 =>
    unfold out0_A_7
    rw [View.read_writes_eq_canon _ _ _ (cover0_A_7 c i arg1 harg1 arg2 harg2 arg3 harg3 arg4 harg4 arg5 harg5 arg6 harg6 arg7 harg7 arg8 harg8 hc x0 x1 x2 x3 x4 x5 x6)]
    unfold kernelRun0_A
    dsimp only
    sl_unfold_words
    rw [View.canon_cons_unit_zero (S := S1x2x128) hz, View.readCov_unit_zero (S := S1x2x128) _ hz, accumulate_apply, h1]
    refine congrArg (0 + ·) ?_
  on_goal 2 =>
    unfold out0_B_7
    rw [View.read_writes_eq_canon _ _ _ (cover0_B_7 c i arg1 harg1 arg2 harg2 arg3 harg3 arg4 harg4 arg5 harg5 arg6 harg6 arg7 harg7 arg8 harg8 hc x0 x1 x2 x3 x4 x5 x6 xo)]
    unfold kernelRun0_B
    dsimp only
    rw [View.canon_unit_zero hz]
    sl_unfold_words
    rw [accumulate_apply]
    refine congrArg₂ (· + ·) (by
      simp only [View.readAt_eq_ld, harg8.read_unread]
      exact congrFun (View.ld_unit_zero (S := S1x2x128) hz _ _) _) ?_
  all_goals
    simp only [View.readAt_eq_ld, harg1.read_unread, harg2.read_unread, harg3.read_unread, harg4.read_unread,
      harg5.read_unread, harg6.read_unread, harg7.read_unread, View.ld_unit_zero (S := S5x8x32) hz,
      View.ld_unit_zero (S := S5x8x8) hz, View.ld_unit_zero (S := S1x80x20000) hz]
    unfold k0_pay26 k0_pay160 k0_pay161 k0_pay162 k0_pay163 k0_pay164
    dsimp only
    simp only [target_eq, pos_eq, neg_eq]
    generalize hL : k0_pay152 (F := Ideal) _ _ _ = L
    generalize hB0 : k0_pay153 (F := Ideal) _ _ _ = B0
    generalize hB1 : k0_pay154 (F := Ideal) _ _ _ = B1
    generalize hB2 : k0_pay155 (F := Ideal) _ _ _ = B2
    generalize hB3 : k0_pay156 (F := Ideal) _ _ _ _ _ = B3
    simp only [anchorAt_ld] at hL hB0 hB1 hB2 hB3 ⊢
    replace hL : L = fun j => labelOf x5 (targetAt i x2 x3 j) := by
      rw [← hL]
      refine upto_all ?_
      iterate 31 refine upto_step _ (by decide) ?_ (ld_label _ _ _ _ _)
      exact upto_one (ld_label _ _ _ _ _)
    replace hB0 : B0 = fun j => cornersOf x6 (targetAt i x2 x3 j) 0 := by
      rw [← hB0]
      refine upto_all (e := fun m => cornersOf x6 m 0) ?_
      iterate 31 refine upto_step _ (by decide) ?_ (ld_corner _ _ _ _ (by decide) _ _)
      exact upto_one (ld_corner _ _ _ _ (by decide) _ _)
    replace hB1 : B1 = fun j => cornersOf x6 (targetAt i x2 x3 j) 1 := by
      rw [← hB1]
      refine upto_all (e := fun m => cornersOf x6 m 1) ?_
      iterate 31 refine upto_step _ (by decide) ?_ (ld_corner _ _ _ _ (by decide) _ _)
      exact upto_one (ld_corner _ _ _ _ (by decide) _ _)
    replace hB2 : B2 = fun j => cornersOf x6 (targetAt i x2 x3 j) 2 := by
      rw [← hB2]
      refine upto_all (e := fun m => cornersOf x6 m 2) ?_
      iterate 31 refine upto_step _ (by decide) ?_ (ld_corner _ _ _ _ (by decide) _ _)
      exact upto_one (ld_corner _ _ _ _ (by decide) _ _)
    replace hB3 : B3 = fun j => cornersOf x6 (targetAt i x2 x3 j) 3 := by
      rw [← hB3]
      refine upto_all (e := fun m => cornersOf x6 m 3) ?_
      iterate 31 refine upto_step _ (by decide) ?_ (ld_corner _ _ _ _ (by decide) _ _)
      exact upto_one (ld_corner _ _ _ _ (by decide) _ _)
    subst hL hB0 hB1 hB2 hB3
    rw [totals_apply _ _ _ _ _ _ _ _ (fun j => cornersOf x6 (targetAt i x2 x3 j)), classLoss_eq, count_eq]
    simp only [posf_apply, anchorAt_ld]
    rfl

end Point

end Cert.KernelIdeal.Value

end

end
-- ==== Proof.KernelArray.lean ====
/-
  The kernel's result: what each window's block is of the arguments, what the running totals are after each grid point,
  and the two numbers the program returns.
-/
module

public import proofs.«01_k».proof.Proof.KernelPoint
public import proofs.«01_k».proof.Proof.Images
public import proofs.«01_k».proof.Proof.Gen.KernelIdeal.Run

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.FocalLoss

variable (m : (ℓ : Loc nD τ sig) → Buf (Elt Ideal) ℓ) (c : Dev nD)

/-- The data of the memory's arguments. -/
abbrev data : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4))

/-! ## The operands as the host program lays them out -/

section Operands

open StableHlo

/-- The operands, read at an index: each is a part of the arguments, laid out anew. -/
theorem scores_operand (b : Fin 8) (k : Fin 80) (n : Fin 20000) :
    V m c main_call0_v0 (ix3 b k n) = (data m c).cls b n k := by
  unfold V V0
  simp only [Gen.hostOps0, TRef.reshape, TRef.unary, TRef.toBuf, TRef.ofBuf, cast_eq, List.flatten_cons, List.flatten_nil,
    List.append_nil, List.cons_append, List.nil_append]
  after_results
  pointwise
  rfl

theorem reg_operand (b : Fin 8) (k : Fin 4) (s : Fin 8) (l : Fin 2500) :
    V m c main_call0_v2 (ix4 b k s l) = (data m c).reg b (flat s l) k := by
  unfold V V0
  simp only [Gen.hostOps0, TRef.reshape, TRef.unary, TRef.toBuf, TRef.ofBuf, cast_eq, List.flatten_cons, List.flatten_nil,
    List.append_nil, List.cons_append, List.nil_append]
  after_results
  pointwise
  rfl

theorem anc_operand (k : Fin 4) (s : Fin 8) (l : Fin 2500) :
    V m c main_call0_v4 (ix4 0 k s l) = (data m c).anc (flat s l) k := by
  unfold V V0
  simp only [Gen.hostOps0, TRef.reshape, TRef.unary, TRef.toBuf, TRef.ofBuf, cast_eq, List.flatten_cons, List.flatten_nil,
    List.append_nil, List.cons_append, List.nil_append]
  after_results
  pointwise
  rfl

theorem ann_operand (k : Fin 5) (b : Fin 8) (j : Fin 32) : V m c main_call0_v5 (ix3 k b j) = (data m c).ann b j k := by
  unfold V V0
  simp only [Gen.hostOps0, TRef.reshape, TRef.unary, TRef.toBuf, TRef.ofBuf, cast_eq, List.flatten_cons, List.flatten_nil,
    List.append_nil, List.cons_append, List.nil_append]
  after_results
  pointwise
  rfl

theorem ign_operand (k : Fin 5) (b : Fin 8) (j : Fin 8) : V m c main_call0_v6 (ix3 k b j) = (data m c).ign b j k := by
  unfold V V0
  simp only [Gen.hostOps0, TRef.reshape, TRef.unary, TRef.toBuf, TRef.ofBuf, cast_eq, List.flatten_cons, List.flatten_nil,
    List.append_nil, List.cons_append, List.nil_append]
  after_results
  pointwise
  rfl

theorem label_operand (b : Fin 8) (j : Fin 32) : V m c main_call0_v10 (ix3 b 0 j) = (data m c).label b j := by
  unfold V V0
  simp only [Gen.hostOps0, TRef.reshape, TRef.unary, TRef.toBuf, TRef.ofBuf, cast_eq, List.flatten_cons, List.flatten_nil,
    List.append_nil, List.cons_append, List.nil_append]
  after_results
  pointwise
  rfl

theorem box_operand (b : Fin 8) (j : Fin 32) (k : Fin 4) : V m c main_call0_v11 (ix3 b j k) = (data m c).box b j k := by
  unfold V V0
  simp only [Gen.hostOps0, TRef.reshape, TRef.unary, TRef.toBuf, TRef.ofBuf, cast_eq, List.flatten_cons, List.flatten_nil,
    List.append_nil, List.cons_append, List.nil_append]
  after_results
  pointwise
  rfl

end Operands

/-! ## The blocks the grid point `t` reads -/

section Blocks

variable (t : Fin cfg0.N)

/-- The image the point is at. -/
def image (t : Fin cfg0.N) : Fin 8 := ⟨t.val, Nat.lt_of_lt_of_eq t.isLt N_0⟩

/-- The grid point `t` works on image `t`. -/
theorem coords_eq : (grid0.coords t) 0 = image t := by
  apply Fin.ext
  rcases fin_N0 t with rfl | rfl | rfl | rfl | rfl | rfl | rfl | rfl <;> decide

/-- The scores', the regressions', the labels' and the boxes' blocks move with the image; the others stay. -/
theorem moving : (win0_0.index t 0 = t.val ∧ win0_0.index t 1 = 0 ∧ win0_0.index t 2 = 0)
    ∧ (win0_1.index t 0 = t.val ∧ win0_1.index t 1 = 0 ∧ win0_1.index t 2 = 0 ∧ win0_1.index t 3 = 0)
    ∧ (win0_5.index t 0 = t.val ∧ win0_5.index t 1 = 0 ∧ win0_5.index t 2 = 0)
    ∧ (win0_6.index t 0 = t.val ∧ win0_6.index t 1 = 0 ∧ win0_6.index t 2 = 0) := by
  rcases fin_N0 t with rfl | rfl | rfl | rfl | rfl | rfl | rfl | rfl <;> decide

/-- The operands' blocks at grid point `t`: the parts that belong to its image. -/
theorem scores_block (k : Fin 80) (n : Fin 20000) :
    (iblk m c 0 t : Vec Ideal S1x80x20000 .f32) (ix3 0 k n) = (data m c).cls (image t) n k := by
  rw [← scores_operand]
  obtain ⟨h0, h1, h2⟩ := (moving t).1
  unfold iblk
  rw [View.read_apply]
  refine congrArg (V m c main_call0_v0) (funext fun a => Fin.ext ?_)
  match a with
  | ⟨0, _⟩ => show win0_0.index t 0 * 1 + 1 * 0 = t.val; rw [h0]; omega
  | ⟨1, _⟩ => show win0_0.index t 1 * 80 + 1 * k.val = k.val; rw [h1]; omega
  | ⟨2, _⟩ => show win0_0.index t 2 * 20000 + 1 * n.val = n.val; rw [h2]; omega

theorem reg_block (k : Fin 4) (s : Fin 8) (l : Fin 2500) :
    (iblk m c 1 t : Vec Ideal S1x4x8x2500 .f32) (ix4 0 k s l) = (data m c).reg (image t) (flat s l) k := by
  rw [← reg_operand]
  obtain ⟨h0, h1, h2, h3⟩ := (moving t).2.1
  unfold iblk
  rw [View.read_apply]
  refine congrArg (V m c main_call0_v2) (funext fun a => Fin.ext ?_)
  match a with
  | ⟨0, _⟩ => show win0_1.index t 0 * 1 + 1 * 0 = t.val; rw [h0]; omega
  | ⟨1, _⟩ => show win0_1.index t 1 * 4 + 1 * k.val = k.val; rw [h1]; omega
  | ⟨2, _⟩ => show win0_1.index t 2 * 8 + 1 * s.val = s.val; rw [h2]; omega
  | ⟨3, _⟩ => show win0_1.index t 3 * 2500 + 1 * l.val = l.val; rw [h3]; omega

theorem anc_block (k : Fin 4) (s : Fin 8) (l : Fin 2500) :
    (iblk m c 2 t : Vec Ideal S1x4x8x2500 .f32) (ix4 0 k s l) = (data m c).anc (flat s l) k := by
  rw [← anc_operand]
  unfold iblk
  rw [View.read_apply]
  refine congrArg (V m c main_call0_v4) (funext fun a => Fin.ext ?_)
  match a with
  | ⟨0, _⟩ => show 0 * 1 + 1 * 0 = 0; omega
  | ⟨1, _⟩ => show 0 * 4 + 1 * k.val = k.val; omega
  | ⟨2, _⟩ => show 0 * 8 + 1 * s.val = s.val; omega
  | ⟨3, _⟩ => show 0 * 2500 + 1 * l.val = l.val; omega

theorem ann_block (k : Fin 5) (b : Fin 8) (j : Fin 32) :
    (iblk m c 3 t : Vec Ideal S5x8x32 .f32) (ix3 k b j) = (data m c).ann b j k := by
  rw [← ann_operand]
  unfold iblk
  rw [View.read_apply]
  refine congrArg (V m c main_call0_v5) (funext fun a => Fin.ext ?_)
  match a with
  | ⟨0, _⟩ => show 0 * 5 + 1 * k.val = k.val; omega
  | ⟨1, _⟩ => show 0 * 8 + 1 * b.val = b.val; omega
  | ⟨2, _⟩ => show 0 * 32 + 1 * j.val = j.val; omega

theorem ign_block (k : Fin 5) (b : Fin 8) (j : Fin 8) :
    (iblk m c 4 t : Vec Ideal S5x8x8 .f32) (ix3 k b j) = (data m c).ign b j k := by
  rw [← ign_operand]
  unfold iblk
  rw [View.read_apply]
  refine congrArg (V m c main_call0_v6) (funext fun a => Fin.ext ?_)
  match a with
  | ⟨0, _⟩ => show 0 * 5 + 1 * k.val = k.val; omega
  | ⟨1, _⟩ => show 0 * 8 + 1 * b.val = b.val; omega
  | ⟨2, _⟩ => show 0 * 8 + 1 * j.val = j.val; omega

theorem label_block (j : Fin 32) :
    labelOf (iblk m c 5 t : Vec Ideal S1x1x32 .i32) j = (data m c).label (image t) j := by
  rw [← label_operand]
  obtain ⟨h0, h1, h2⟩ := (moving t).2.2.1
  unfold labelOf iblk
  rw [View.read_apply]
  refine congrArg (V m c main_call0_v10) (funext fun a => Fin.ext ?_)
  match a with
  | ⟨0, _⟩ => show win0_5.index t 0 * 1 + 1 * 0 = t.val; rw [h0]; omega
  | ⟨1, _⟩ => show win0_5.index t 1 * 1 + 1 * 0 = 0; rw [h1]
  | ⟨2, _⟩ => show win0_5.index t 2 * 32 + 1 * j.val = j.val; rw [h2]; omega

theorem box_block (j : Fin 32) :
    cornersOf (iblk m c 6 t : Vec Ideal S1x32x4 .f32) j = (data m c).box (image t) j := by
  funext k
  rw [← box_operand]
  obtain ⟨h0, h1, h2⟩ := (moving t).2.2.2
  unfold cornersOf iblk
  rw [View.read_apply]
  refine congrArg (V m c main_call0_v11) (funext fun a => Fin.ext ?_)
  match a with
  | ⟨0, _⟩ => show win0_6.index t 0 * 1 + 1 * 0 = t.val; rw [h0]; omega
  | ⟨1, _⟩ => show win0_6.index t 1 * 32 + 1 * j.val = j.val; rw [h1]; omega
  | ⟨2, _⟩ => show win0_6.index t 2 * 4 + 1 * k.val = k.val; rw [h2]; omega

end Blocks

/-! ## What one grid point adds -/

/-- Adding over the rows and the lanes adds over the anchors. -/
theorem sum_flat (f : Fin 20000 → EReal) : ∑ s : Fin 8, ∑ l : Fin 2500, f (flat s l) = ∑ n, f n := by
  rw [← Fintype.sum_prod_type' fun s l => f (flat s l)]
  refine Fintype.sum_equiv (finProdFinEquiv : Fin 8 × Fin 2500 ≃ Fin 20000) _ _ fun p => congrArg f (Fin.ext ?_)
  show p.1.val * 2500 + p.2.val = p.2.val + 2500 * p.1.val
  omega

/-- The kernel's class loss and box loss of one anchor, and what it adds for image `b`. -/
def anchorClass (D : Data) (b : Fin 8) (n : Fin 20000) : EReal :=
  anchorLoss (D.pos b n) (D.neg b n) (baseLoss (D.cls b n)) (picked (D.cls b n) (D.label b (D.tgt b n)))
def anchorBox (D : Data) (b : Fin 8) (n : Fin 20000) : EReal :=
  boxErr (D.anc n) (D.box b (D.tgt b n)) (D.reg b n) * bit (D.pos b n)
def kernelTotal (D : Data) (b : Fin 8) : Fin 2 → EReal :=
  imageTotal (D.count b) (∑ n, anchorClass D b n) (∑ n, anchorBox D b n)

/-- What grid point `t` adds is what its image adds. -/
theorem point_eq (t : Fin cfg0.N) :
    pointTotal (grid0.coords t) (iblk m c 0 t) (iblk m c 1 t) (iblk m c 2 t) (iblk m c 3 t) (iblk m c 4 t) (iblk m c 5 t)
      (iblk m c 6 t) = kernelTotal (data m c) (image t) := by
  have hs (n) : scoresAt (iblk m c 0 t) n = (data m c).cls (image t) n := funext fun k => scores_block m c t k n
  have hr (s l) : planes (iblk m c 1 t) (ix2 s l) = (data m c).reg (image t) (flat s l) :=
    funext fun k => reg_block m c t k s l
  have ha (s l) : planes (iblk m c 2 t) (ix2 s l) = (data m c).anc (flat s l) := funext fun k => anc_block m c t k s l
  have hB : annAt (grid0.coords t) (iblk m c 3 t) = (data m c).box (image t) := by
    funext j k; unfold annAt; rw [coords_eq]; exact ann_block m c t _ _ _
  have hG : ignAt (grid0.coords t) (iblk m c 4 t) = (data m c).region (image t) := by
    funext j k; unfold ignAt; rw [coords_eq]; exact ign_block m c t _ _ _
  unfold pointTotal posAt negAt targetAt kernelTotal Data.count
  rw [← sum_flat, ← sum_flat, ← sum_flat]
  simp only [hs, hr, ha, hB, hG, label_block, box_block]
  rfl

/-! ## The running totals, and the two results -/

/-- After point `n` the output block holds the sum over the images up to `n`. -/
theorem outsAt_eq (a : Fin 2) : ∀ n (h : n < cfg0.N), outsAt0 m c n h (ix3 0 a 0)
    = ∑ b : Fin (n + 1), kernelTotal (data m c) (image ⟨b, lt_of_lt_of_le b.isLt h⟩) a
  | 0, h => by
    rw [outsAt0_A m c ⟨0, h⟩ rfl, (out_apply _ _ _ _ _ _ _ _ _ _ _ _ _ _ _ _ _ _ _ _ _ _ _ _ _ (fun _ => (0 : EReal)) a).1,
      point_eq, zero_add,
      Fin.sum_univ_one]
    rfl
  | n + 1, h => by
    have hN : cfg0.N = 8 := N_0
    have hB : ¬(⟨n + 1, h⟩ : Fin cfg0.N).val % 8 = 0 := by dsimp only; omega
    rw [outsAt0_B m c ⟨n + 1, h⟩ hB, (out_apply _ _ _ _ _ _ _ _ _ _ _ _ _ _ _ _ _ _ _ _ _ _ _ _ _ _ a).2, point_eq,
      Fin.sum_univ_castSucc]
    exact congrArg (· + kernelTotal (data m c) (image ⟨n + 1, h⟩) a) (outsAt_eq a n (Nat.lt_of_succ_lt h))

/-- What the result array holds in the end: what the last point left. -/
def result : Vec Ideal S1x2x128 .f32 := outsAt0 m c 7 (by rw [show cfg0.N = 8 from N_0]; omega)

/-- The block that is written back is the one after the last point. -/
theorem flushed_eq (t : Fin cfg0.N) (hf : (cfg0.win 7).flush t = true) :
    (dats m 0 c).flushed 7 t = ((cfg0.win 7).blk t).view.read (Elt Ideal) (result m c) := by
  have hN : cfg0.N = 8 := N_0
  have h7 : t.val = 7 := by have := (flush0_7 t).mp hf; have := t.isLt; omega
  obtain rfl : t = t0_7 := Fin.ext h7
  show (cfg0.win 7).cut (grid0.coords t0_7) ((dats m 0 c).after 7 t0_7) = _
  rw [after0_7]
  have hz' : (fun a => win0_7.index t0_7 a * main_call0_v12.ty.shape.size a) = fun _ => 0 :=
    funext fun a => by fin_cases a <;> decide
  exact (Memref.read_access_unit_zero (Elt Ideal) main_call0_v12 hz' (fun a => by rw [congrFun hz' a]; simp) (result m c)).symm

/-- The output array after the launch. -/
theorem final : reg_main_call0_v12 m c = result m c :=
  (dats m 0 c).arrAt_eq_of_cover 7 (result m c) (flushed_eq m c) fun i =>
    ⟨t0_7, (flush0_7 t0_7).mpr rfl, by
      show i ∈ ((View.whole main_call0_v12).slice (win0_7.rect t0_7)).set
      rw [View.set_slice_whole, Rect.mem_set_unit]
      intro a
      have h0 : (i 0 : Nat) < 1 := (i 0).isLt
      have h1 : (i 1 : Nat) < 2 := (i 1).isLt
      have h2 : (i 2 : Nat) < 128 := (i 2).isLt
      match a with
      | ⟨0, _⟩ => show 0 * 1 ≤ (i 0 : Nat) ∧ (i 0 : Nat) < 0 * 1 + 1; omega
      | ⟨1, _⟩ => show 0 * 2 ≤ (i 1 : Nat) ∧ (i 1 : Nat) < 0 * 2 + 2; omega
      | ⟨2, _⟩ => show 0 * 128 ≤ (i 2 : Nat) ∧ (i 2 : Nat) < 0 * 128 + 128; omega⟩

/-- The two numbers the program returns: the sum over the images of what each adds. -/
theorem returned (a : Fin 2) :
    shapeCast S2 (extractStridedSlice S1x2x1 ![0, 0, 0] (reg_main_call0_v12 m c) slices_S1x2x128_S1x2x1_0_0_0)
      shapeCasts_S1x2x1_S2 (ix1 a) = ∑ b : Fin 8, kernelTotal (data m c) b a := by
  rw [final]
  generalize hr : result m c = r
  pointwise
  rw [← hr]
  exact outsAt_eq m c a 7 _

end Cert.KernelIdeal.Value

end

end
-- ==== Proof.Equation.lean ====
/-
  The equation: over all images, what the kernel adds up is the reference's mean; and how far the two can be apart where
  scores lie below the lower end of the reference's clip.
-/
module

public import proofs.«01_k».proof.Proof.ClassEquation
public import proofs.«01_k».proof.Proof.KernelArray

@[expose] public section

noncomputable section

open Idealize.ShloMosaic

namespace Cert.FocalLoss

open Cert.KernelIdeal.Value (lo smoothErr boxErr imageTotal anchorClass anchorBox kernelTotal)
open Cert.ReferenceIdeal.Value (scoreLoss offsetLoss imageLoss)

/-- Every score is at least `l` and every label names a class. -/
def Data.InRange (D : Data) (l : EReal) : Prop :=
  (∀ b n c, l ≤ D.cls b n c) ∧ ∀ b m, ∃ k : Fin 80, D.label b m = BitVec.ofNat 32 k.val

/-! ## The box losses -/

/-- The two spellings of the smooth absolute value. -/
theorem smoothErr_eq (d : EReal) : smoothErr d = smooth d := by
  unfold smoothErr smooth
  rw [← mul_assoc]
  by_cases h : d ≤ Ideal.ofBits .f32 0x3DE38E39#32 <;> simp [h, Ideal.cmp, Scalar.select]

/-- One anchor's box loss is the sum of the reference's four. -/
theorem anchorBox_eq (D : Data) (b : Fin 8) (n : Fin 20000) : anchorBox D b n = ∑ k, offsetLoss D b n k := by
  unfold anchorBox offsetLoss boxErr
  simp only [smoothErr_eq]
  generalize D.pos b n = p
  rcases (show p = 1#1 ∨ p = 0#1 by revert p; decide) with rfl | rfl
  · rw [show bit 1#1 = 1 by simp [bit], mul_one, Fin.sum_univ_four]
    rfl
  · rw [show bit 0#1 = 0 by simp [bit], mul_zero]
    refine (Finset.sum_eq_zero fun k _ => ?_).symm
    rw [zero_val]
    rfl

/-- The constants 1/8 and 8. -/
theorem eighth_val : Ideal.ofBits .f32 0x3E000000#32 = ((1 / 8 : ℝ) : EReal) := by
  simp [Ideal.ofBits, Ideal.ieee, -EReal.coe_mul]; norm_num
theorem eight_val : Ideal.ofBits .f32 0x41000000#32 = ((8 : ℝ) : EReal) := by
  simp [Ideal.ofBits, Ideal.ieee, -EReal.coe_mul]; norm_num

/-- Multiplying by a real that is not negative distributes over a sum. -/
theorem sum_mul_coe {ι : Type} [DecidableEq ι] (f : ι → EReal) (r : ℝ) (hr : 0 ≤ r) (s : Finset ι) :
    ∑ i ∈ s, f i * (r : EReal) = (∑ i ∈ s, f i) * (r : EReal) := by
  induction s using Finset.induction_on with
  | empty => simp
  | insert a s ha ih =>
    rw [Finset.sum_insert ha, Finset.sum_insert ha, ih, mul_comm (f a + _), mul_comm (f a), mul_comm (∑ i ∈ s, f i)]
    exact (EReal.left_distrib_of_nonneg_of_ne_top (EReal.coe_nonneg.mpr hr) (EReal.coe_ne_top r) _ _).symm

/-- The mean over the images is the sum of their losses' eighths. -/
theorem mean_eq (f : Fin 8 → EReal) : Ideal.div (∑ b, f b) (Ideal.ofBits .f32 0x41000000#32) = ∑ b, f b * ((1 / 8 : ℝ) : EReal) := by
  rw [eight_val, Ideal.div_coe (by norm_num), sum_mul_coe _ _ (by norm_num)]

/-- What one image adds to the kernel's two numbers. -/
theorem kernelTotal_class (D : Data) (b : Fin 8) :
    kernelTotal D b 0 = Ideal.div (∑ n, anchorClass D b n) (max (D.count b) 1) * ((1 / 8 : ℝ) : EReal) := by
  unfold kernelTotal imageTotal
  rw [eighth_val]
  generalize (∑ n, anchorClass D b n) = s
  generalize D.count b = np
  rfl

/-- Of its box loss, likewise an eighth. -/
theorem kernelTotal_box (D : Data) (b : Fin 8) : kernelTotal D b 1 = imageLoss D b 1 * ((1 / 8 : ℝ) : EReal) := by
  unfold kernelTotal imageTotal imageLoss
  rw [eighth_val, Finset.sum_congr rfl fun n _ => anchorBox_eq D b n]
  generalize (∑ n, ∑ k, offsetLoss D b n k) = t
  generalize D.count b = np
  rfl

/-- The box losses are equal, whatever the data. -/
theorem box_equation (D : Data) : ∑ b, kernelTotal D b 1 = Ideal.div (∑ b, imageLoss D b 1) (Ideal.ofBits .f32 0x41000000#32) := by
  rw [mean_eq]
  exact Finset.sum_congr rfl fun b _ => kernelTotal_box D b

/-! ## The classification losses -/

/-- The reference's classification loss of an image. -/
theorem imageLoss_class (D : Data) (b : Fin 8) :
    imageLoss D b 0 = Ideal.div (∑ n, ∑ c, scoreLoss D b n c) (max (D.count b) 1) := by
  unfold imageLoss
  generalize (∑ n, ∑ c, scoreLoss D b n c) = s
  generalize D.count b = np
  rfl

/-- The number of positive anchors is a real number that is not negative. -/
theorem count_real (D : Data) (b : Fin 8) : ∃ r : ℝ, 0 ≤ r ∧ D.count b = r :=
  ⟨∑ n, ((D.pos b n).toNat : ℝ), Finset.sum_nonneg fun n _ => Nat.cast_nonneg _, (coe_sum _ _).symm⟩

/-- Dividing both by a number that is at least 1 brings them no further apart. -/
theorem Near.div {a b : EReal} {e : ℝ} (h : Near e a b) (he : 0 ≤ e) (np : ℝ) :
    Near e (Ideal.div a (max (np : EReal) 1)) (Ideal.div b (max (np : EReal) 1)) := by
  have h1 : (1 : ℝ) ≤ max np 1 := le_max_right _ _
  rw [← EReal.coe_one, ← coe_max, Ideal.div_coe (by linarith), Ideal.div_coe (by linarith)]
  have hq : 1 / max np 1 ≤ 1 := by rw [div_le_one (by linarith)]; exact h1
  obtain ⟨r, s, hr, hs, hrs⟩ := h.mul (1 / max np 1) (by positivity)
  exact ⟨r, s, hr, hs, hrs.trans (mul_le_of_le_one_right he hq)⟩

/-- If the anchors' losses are at most `e` apart, one by one, the means over the images are at most `20000 * e` apart. -/
theorem class_near (D : Data) (e : ℝ) (he : 0 ≤ e) (h : ∀ b n, Near e (anchorClass D b n) (∑ c, scoreLoss D b n c)) :
    Near (20000 * e) (∑ b, kernelTotal D b 0) (Ideal.div (∑ b, imageLoss D b 0) (Ideal.ofBits .f32 0x41000000#32)) := by
  have hb (b : Fin 8) : Near (20000 * e * (1 / 8)) (kernelTotal D b 0) (imageLoss D b 0 * ((1 / 8 : ℝ) : EReal)) := by
    obtain ⟨np, -, hnp⟩ := count_real D b
    have hs : Near (20000 * e) (∑ n, anchorClass D b n) (∑ n, ∑ c, scoreLoss D b n c) := by
      have := Near.sum (h b)
      exact_mod_cast this
    rw [kernelTotal_class, imageLoss_class, hnp]
    exact (hs.div (by positivity) np).mul _ (by norm_num)
  rw [mean_eq]
  obtain ⟨r, s, hr, hs, hrs⟩ := Near.sum hb
  refine ⟨r, s, hr, hs, hrs.trans (le_of_eq ?_)⟩
  push_cast
  ring

/-- Where no score lies below the clip, the two losses are equal. -/
theorem equation (D : Data) (hD : D.InRange lo) :
    ∀ a : Fin 2, ∑ b, kernelTotal D b a = Ideal.div (∑ b, imageLoss D b a) (Ideal.ofBits .f32 0x41000000#32)
  | 0 => by
    have hl : (0 : EReal) ≤ lo := by
      unfold lo; rw [lo_val, ← EReal.coe_zero, EReal.coe_le_coe_iff]; norm_num
    have h := class_near D 0 le_rfl fun b n => by
      obtain ⟨k, hk⟩ := hD.2 b (D.tgt b n)
      have := anchor_near _ (fun c => hl.trans (hD.1 b n c)) 0 le_rfl (fun c s _ hs => ?_) _ k hk (D.pos b n) (D.neg b n)
      · rw [mul_zero] at this
        exact this
      · have hm : lo ≤ (s : EReal) := hs ▸ le_min (hD.1 b n c) lo_le_hi
        unfold lo at hm
        rw [lo_val, EReal.coe_le_coe_iff] at hm
        rw [max_eq_right hm, sub_self, abs_zero]
    exact Near.eq (by simpa using h)
  | 1 => box_equation D

/-- Where no score is negative, the classification losses are at most 1.6e-6 apart. -/
theorem class_close (D : Data) (hD : D.InRange 0) :
    Near (16 / 10 ^ 7) (∑ b, kernelTotal D b 0) (Ideal.div (∑ b, imageLoss D b 0) (Ideal.ofBits .f32 0x41000000#32)) := by
  have h := class_near D (80 * (1 / 10 ^ 12)) (by norm_num) fun b n => by
    obtain ⟨k, hk⟩ := hD.2 b (D.tgt b n)
    exact anchor_near _ (hD.1 b n) (1 / 10 ^ 12) (by norm_num) (fun c s h0 _ => zeroLoss_clip h0) _ k hk _ _
  norm_num at h ⊢
  exact h

end Cert.FocalLoss

end

end
-- ==== Proof.Range.lean ====
/-
  The two preconditions, read back: where they hold, every score is at least 1e-4, or at least 0, and every label names a
  class.
-/
module

public import proofs.«01_k».proof.Proof.Equation
public import proofs.«01_k».proof.Proof.Gen.Pre_in_range
public import proofs.«01_k».proof.Proof.Gen.Pre_drawn_range
public import Idealize.ShloMosaic.Lib.ReduceAll

@[expose] public section

noncomputable section

open Idealize.ShloMosaic

namespace Cert.FocalLoss

open Cert.Pre_in_range Cert.Pre_in_range.Facts

variable (x0 : FVec Ideal S8x20000x80 .f32) (x1 : FVec Ideal S8x20000x4 .f32) (x2 : FVec Ideal S1x20000x4 .f32)
  (x3 : FVec Ideal S8x32x5 .f32) (x4 : FVec Ideal S8x8x5 .f32)

/-- The array of labels the preconditions compare. -/
def labels : IVec S8x32 32 :=
  fptosi 32 (shapeCast S8x32 (extractStridedSlice S8x32x1 ![0, 0, 4] x3 slices_S8x32x5_S8x32x1_0_0_4) shapeCasts_S8x32x1_S8x32)

/-- Its entries are the annotations' labels. -/
theorem labels_apply (b : Fin 8) (m : Fin 32) : labels x3 (ix2 b m) = (Data.of x0 x1 x2 x3 x4).label b m := by
  unfold labels
  pointwise
  rfl

/-- The bit that says that `x` is at least `y`. -/
theorem oge_one (x y : EReal) (h : Ideal.cmp .oge x y = 1#1) : y ≤ x := by
  by_contra hn
  simp [Ideal.cmp, hn] at h

/-- A word that is, read with its sign, at least 0 and below 80 is one of the 80 class numbers. -/
theorem word_class (w : BitVec 32) (h0 : IntOp.cmpi .sge w 0#32 = 1#1) (h1 : IntOp.cmpi .slt w 80#32 = 1#1) :
    ∃ k : Fin 80, w = BitVec.ofNat 32 k.val := by
  have ofBool_one (p : Bool) (h : BitVec.ofBool p = 1#1) : p = true := by cases p <;> simp_all
  have h0 := ofBool_one _ h0
  have h1 := ofBool_one _ h1
  have hw : w.toNat < 80 := by
    simp only [BitVec.sle, BitVec.slt, decide_eq_true_eq, BitVec.toInt, BitVec.toNat_ofNat] at h0 h1
    omega
  exact ⟨⟨w.toNat, hw⟩, by simp⟩

/-- Where every comparison of a score with `l` and of a label with the two ends is 1, the data is in range. -/
theorem inRange_of_bits (l : EReal) (hs : ∀ i, Ideal.cmp .oge (x0 i) l = 1#1)
    (hge : ∀ i, IntOp.cmpi .sge (labels x3 i) 0#32 = 1#1) (hlt : ∀ i, IntOp.cmpi .slt (labels x3 i) 80#32 = 1#1) :
    (Data.of x0 x1 x2 x3 x4).InRange l := by
  refine ⟨fun b n c => oge_one _ _ (hs (ix3 b n c)), fun b m => ?_⟩
  rw [← labels_apply]
  exact word_class _ (hge (ix2 b m)) (hlt (ix2 b m))

/-- An array of rank 0 has one index. -/
theorem subsingleton_S_ : Subsingleton S_.Idx := ⟨fun y z => funext fun a => a.elim0⟩

/-- The value claim's precondition. -/
theorem inRange_of (h : Cert.Pre_in_range.fn (F := Ideal) x0 x1 x2 x3 x4 = fun _ => 1#1) :
    (Data.of x0 x1 x2 x3 x4).InRange KernelIdeal.Value.lo := by
  have := subsingleton_S_
  obtain ⟨e, hlt⟩ := IntOp.andi_eq_one.mp (congrFun h fun a => a.elim0)
  obtain ⟨hcls, hge⟩ := IntOp.andi_eq_one.mp e
  exact inRange_of_bits _ _ _ _ _ _ (fun i => Host.reduce_andi_all _ _ _ _ _ hcls i)
    (fun i => Host.reduce_andi_all _ _ _ _ _ hge i) fun i => Host.reduce_andi_all _ _ _ _ _ hlt i

/-- The bound's precondition. -/
theorem drawnRange_of (h : Cert.Pre_drawn_range.fn (F := Ideal) x0 x1 x2 x3 x4 = fun _ => 1#1) :
    (Data.of x0 x1 x2 x3 x4).InRange 0 := by
  have := subsingleton_S_
  obtain ⟨e, hlt⟩ := IntOp.andi_eq_one.mp (congrFun h fun a => a.elim0)
  obtain ⟨hcls, hge⟩ := IntOp.andi_eq_one.mp e
  rw [← EReal.coe_zero, ← zero_val]
  exact inRange_of_bits _ _ _ _ _ _ (fun i => Host.reduce_andi_all _ _ _ _ _ hcls i)
    (fun i => Host.reduce_andi_all _ _ _ _ _ hge i) fun i => Host.reduce_andi_all _ _ _ _ _ hlt i

end Cert.FocalLoss

end

end
-- ==== Proof.Close.lean ====
/-
  The bound's postcondition, read back: the reference in it is the reference.
-/
module

public import proofs.«01_k».proof.Proof.Equation
public import proofs.«01_k».proof.Proof.Gen.Post_close

@[expose] public section

noncomputable section

open Idealize.ShloMosaic

namespace Cert.ReferenceIdeal.Value

open Cert.ReferenceIdeal Cert.ReferenceIdeal.Read Cert.FocalLoss

variable (x0 : FVec Ideal S8x20000x80 .f32) (x1 : FVec Ideal S8x20000x4 .f32) (x2 : FVec Ideal S1x20000x4 .f32)
  (x3 : FVec Ideal S8x32x5 .f32) (x4 : FVec Ideal S8x8x5 .f32) (y : FVec Ideal S2 .f32)

/-- What the postcondition says of the two arrays of losses, the kernel's `y` and the reference's `e`. -/
def closeBits (y e : FVec Ideal S2 .f32) : IVec Cert.Post_close.S_ 1 :=
  Cert.Post_close.fn_part16 y e (Host.absf (subf
    (shapeCast Cert.Post_close.S_ (extractStridedSlice Cert.Post_close.S1 ![0] y Cert.Post_close.Facts.slices_S2_S1_0) Cert.Post_close.Facts.shapeCasts_S1_S_)
    (shapeCast Cert.Post_close.S_ (extractStridedSlice Cert.Post_close.S1 ![0] e Cert.Post_close.Facts.slices_S2_S1_0) Cert.Post_close.Facts.shapeCasts_S1_S_)))

/-- The postcondition, with the reference's losses in the place of their computation. -/
theorem close_eq : Cert.Post_close.fn (F := Ideal) x0 x1 x2 x3 x4 y = closeBits y (val_main_v324 (F := Ideal) x0 x1 x2 x3 x4) :=
  rfl

/-- The postcondition's bit is 1 where the first losses are at most 2e-6 apart and the second are equal. -/
theorem closeBits_one (y e : FVec Ideal S2 .f32) (h0 : Near (16 / 10 ^ 7) (y (ix1 0)) (e (ix1 0))) (h1 : y (ix1 1) = e (ix1 1)) :
    closeBits y e = fun _ => 1#1 := by
  funext i
  unfold closeBits Cert.Post_close.fn_part16
  pointwise
  obtain ⟨r, s, hr, hs, hrs⟩ := h0
  have hb : Ideal.ofBits .f32 0x360637BD#32 = ((8796093 / 2 ^ 42 : ℝ) : EReal) := by
    simp [Ideal.ofBits, Ideal.ieee, -EReal.coe_mul]; norm_num
  have habs : FloatOps.absf (F := Ideal) (φ := .f32) (y (ix1 0) - e (ix1 0)) = ((|r - s| : ℝ) : EReal) := by
    rw [hr, hs]
    show max ((r : EReal) - s) (-((r : EReal) - s)) = _
    rw [← EReal.coe_sub, ← EReal.coe_neg, ← coe_max]
    rfl
  have hle : FloatOps.absf (F := Ideal) (φ := .f32) (y (ix1 0) - e (ix1 0)) ≤ Ideal.ofBits .f32 0x360637BD#32 := by
    rw [habs, hb, EReal.coe_le_coe_iff]
    exact hrs.trans (by norm_num)
  rw [decide_eq_true hle, decide_eq_true h1]
  rfl

end Cert.ReferenceIdeal.Value

end

end
-- ==== Proof.Claims.lean ====
/-
  The claims: the three frames, what the two named constants stand for, that kernel and reference return the same two
  numbers, and how far apart they can be where scores lie below the lower end of the reference's clip.
-/
module

public import proofs.«01_k».proof.Defs
public import proofs.«01_k».proof.Proof.Range
public import proofs.«01_k».proof.Proof.Close
public import proofs.«01_k».proof.Proof.Gen.Kernel.Frame
public import proofs.«01_k».proof.Proof.Gen.KernelIdeal.Frame
public import proofs.«01_k».proof.Proof.Gen.KernelIdeal.Run
public import proofs.«01_k».proof.Proof.Gen.ReferenceIdeal.Run
public import proofs.«01_k».proof.Proof.Gen.ReferenceIdeal.Read

@[expose] public section

noncomputable section

namespace Cert.FocalLoss

open Idealize.ShloMosaic Idealize.ShloMosaic.TcCoe Idealize.SL.Sem

/-! ## The frames, with and without the preconditions -/

/-- The kernel ends without fault, leaves its arguments and every semaphore counter as they were. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same under the value claim's precondition. -/
theorem frame_pi_pre : Cert.quiescent_KernelIdeal_pre_in_range := fun m ρ _ => Cert.KernelIdeal.Gen.frame m ρ

/-- The same under the bound's precondition. -/
theorem frame_pi_drawn : Cert.quiescent_KernelIdeal_pre_drawn_range := fun m ρ _ => Cert.KernelIdeal.Gen.frame m ρ

/-- The same of the idealized reference: it has no semaphores. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the value claim's precondition. -/
theorem frame_ri_pre : Cert.quiescent_ReferenceIdeal_pre_in_range := fun m ρ _ => frame_ri m ρ trivial

/-! ## The values -/

/-- The two named constants are the reals they are named after. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "base_scale" .f32 0xBF051592#32
      ((-((3 / 4) * (Real.log 2)) : ℝ) : EReal) rfl⟩

/-- Arrays of two numbers that agree at both places are equal. -/
theorem pair_ext (x y : Cert.KernelIdeal.S2.Idx → EReal) (h : ∀ a : Fin 2, x (ix1 a) = y (ix1 a)) : x = y := by
  funext i
  rw [show i = ix1 (i 0) from funext fun k => by fin_cases k; rfl]
  exact h _

set_option maxRecDepth 20000 in
/-- Where the precondition holds, the kernel's two numbers are the reference's. -/
theorem algebraic : Cert.algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v324_eq (F := Ideal) (StableHlo.launchContents m' c)).trans ?_
  obtain ⟨h0, h1, h2, h3, h4⟩ := hagree c
  refine pair_ext _ _ fun a => ?_
  refine (Cert.ReferenceIdeal.Value.returned _ _ _ _ _ a).trans ?_
  refine Eq.trans ?_ (Cert.KernelIdeal.Value.returned m c a).symm
  rw [equation _ (inRange_of _ _ _ _ _ (hpre c))]
  rw [show Data.of _ _ _ _ _ = Cert.KernelIdeal.Value.data m c from by
    unfold Cert.KernelIdeal.Value.data
    exact congr (congr (congr (congr (congrArg Data.of h0) h1) h2) h3) h4]

/-- Where no score is negative, the kernel's classification loss is within 2e-6 of the reference's, and its box loss is
    the reference's. -/
theorem bound : Cert.holds_KernelIdeal_close_pre_drawn_range := by
  intro m ρ hpre
  refine (θ_run Cert.KernelIdeal.defs _ _).mono (fun r h c => ?_) (Cert.KernelIdeal.Value.run (F := Ideal) m ρ)
  obtain ⟨hv, h0, h1, h2, h3, h4⟩ := h c
  refine ⟨h0, h1, h2, h3, h4, ?_⟩
  rw [hv]
  refine (Cert.ReferenceIdeal.Value.close_eq _ _ _ _ _ _).trans (Cert.ReferenceIdeal.Value.closeBits_one _ _ ?_ ?_)
  · rw [Cert.ReferenceIdeal.Value.returned, Cert.KernelIdeal.Value.returned m c 0]
    exact class_close _ (drawnRange_of _ _ _ _ _ (hpre c))
  · rw [Cert.ReferenceIdeal.Value.returned, Cert.KernelIdeal.Value.returned m c 1]
    exact box_equation _

end Cert.FocalLoss

end

end
-- ==== Proof.lean ====
/-
  The proof of `Cert.Claim` (proofs.«01_k».proof.Defs): the focal loss of eight images. What one step of the kernel
  computes is in Proof/KernelClass, KernelBox and KernelPoint over the geometry of KernelGeometry; what the array holds
  after the eight steps in KernelArray; what the reference computes in RefBoxes and RefLoss; the equation in
  ClassEquation and Equation, with the preconditions read back in Range and the bound's postcondition in Close; and the
  claims themselves in Claims.
-/
module

public import proofs.«01_k».proof.Defs
public import proofs.«01_k».proof.Proof.Claims
public import proofs.«01_k».proof.Proof.Gen.Pre_in_range
public import proofs.«01_k».proof.Proof.Gen.Pre_drawn_range
public import proofs.«01_k».proof.Proof.Gen.Post_close
public import proofs.«01_k».proof.Proof.Gen.Kernel
public import proofs.«01_k».proof.Proof.Gen.KernelIdeal
public import proofs.«01_k».proof.Proof.Gen.ReferenceIdeal
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_drawn_range.Gen.facts, Cert.Post_close.Gen.facts, FocalLoss.frame_p, FocalLoss.frame_pi,
    FocalLoss.frame_pi_pre, FocalLoss.frame_pi_drawn, FocalLoss.frame_ri, FocalLoss.frame_ri_pre, FocalLoss.preserves,
    FocalLoss.algebraic, FocalLoss.bound⟩

end Cert.Proof

end
